-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_KernelIdeal_as_set_up [hPre_as_set_up : Cert.Pre_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_set_up [hPre_as_set_up : Cert.Pre_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_as_set_up [hKernelIdeal : Cert.KernelIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_as_set_up [hReferenceIdeal : Cert.ReferenceIdeal.Facts] [hPre_as_set_up : Cert.Pre_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_as_set_up [hKernelIdeal : Cert.KernelIdeal.Facts] [hReferenceIdeal : Cert.ReferenceIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v5_0)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v5_0) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v271) = v2 c
          ∧ r.2.mem ((c.tc : Thread Cert.ReferenceIdeal.nD Cert.ReferenceIdeal.τ).loc Cert.ReferenceIdeal.main_v221) = v3 c
          ∧ r.2.mem ((c.tc : Thread Cert.ReferenceIdeal.nD Cert.ReferenceIdeal.τ).loc Cert.ReferenceIdeal.main_v281) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_as_set_up : Cert.Pre_as_set_up.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_as_set_up (hKernelIdeal := hKernelIdeal) (hPre_as_set_up := hPre_as_set_up)
    ∧ quiescent_ReferenceIdeal (hReferenceIdeal := hReferenceIdeal)
    ∧ quiescent_ReferenceIdeal_pre_as_set_up (hReferenceIdeal := hReferenceIdeal) (hPre_as_set_up := hPre_as_set_up)
    ∧ preserves_Kernel_KernelIdeal
    ∧ algebraic_KernelIdeal_ReferenceIdeal_pre_as_set_up (hKernelIdeal := hKernelIdeal) (hReferenceIdeal := hReferenceIdeal) (hPre_as_set_up := hPre_as_set_up)
-- ==== Pre_as_set_up.lean ====
abbrev S4x576x768 : Shape := ⟨3, ![4, 576, 768]⟩
abbrev S4x128 : Shape := ⟨2, ![4, 128]⟩
abbrev S768 : Shape := ⟨1, ![768]⟩
abbrev S768x768 : Shape := ⟨2, ![768, 768]⟩
abbrev S1536x768 : Shape := ⟨2, ![1536, 768]⟩
abbrev S_ : Shape := ⟨0, ![]⟩
abbrev S4x64 : Shape := ⟨2, ![4, 64]⟩
abbrev S4x64x1 : Shape := ⟨3, ![4, 64, 1]⟩
abbrev S1x1x768 : Shape := ⟨3, ![1, 1, 768]⟩
abbrev S4x64x768 : Shape := ⟨3, ![4, 64, 768]⟩

class Facts : Prop where
  bcast_S_S768 : S_.BroadcastsInDim S768 (![] : Fin 0 → Fin S768.rank)
  slices_S4x128_S4x64_0_0 : S4x128.Slices ![0, 0] S4x64
  bcast_S_S4x64 : S_.BroadcastsInDim S4x64 (![] : Fin 0 → Fin S4x64.rank)
  bcast_S4x64_S4x64x1_0_1 : S4x64.BroadcastsInDim S4x64x1 (![0, 1] : Fin 2 → Fin S4x64x1.rank)
  bcast_S768_S1x1x768_2 : S768.BroadcastsInDim S1x1x768 (![2] : Fin 1 → Fin S1x1x768.rank)
  bcast_S4x64x1_S4x64x768_0_1_2 : S4x64x1.BroadcastsInDim S4x64x768 (![0, 1, 2] : Fin 3 → Fin S4x64x768.rank)
  bcast_S1x1x768_S4x64x768_0_1_2 : S1x1x768.BroadcastsInDim S4x64x768 (![0, 1, 2] : Fin 3 → Fin S4x64x768.rank)

variable [Facts]

def fn_part2 {F : FTy → Type} [FloatOps F] (main_v35 : IVec S4x64x768 1) (main_v36 : IVec S4x64x768 1) : IVec S4x64x768 1 :=
  let main_v37 : IVec S4x64x768 1 := andi main_v35 main_v36
  main_v37

def fn_part1 {F : FTy → Type} [FloatOps F] (main_arg2 : IVec S4x128 32) (main_arg12 : FVec F S768 .f32) (main_arg14 : FVec F S768 .f32) (main_arg16 : FVec F S768 .f32) (main_v16 : IVec S768 1) (main_cst_5 : FVec F S_ .f32) : IVec S4x64x768 1 :=
  let main_v17 : FVec F S768 .f32 := broadcastInDim S768 ![] bcast_S_S768 main_cst_5
  let main_v18 : IVec S768 1 := cmpf .oeq main_arg12 main_v17
  let main_v19 : IVec S768 1 := andi main_v16 main_v18
  let main_cst_6 : FVec F S_ .f32 := constant S_ .f32 0x00000000#32
  let main_v20 : FVec F S768 .f32 := broadcastInDim S768 ![] bcast_S_S768 main_cst_6
  let main_v21 : IVec S768 1 := cmpf .oeq main_arg14 main_v20
  let main_v22 : IVec S768 1 := andi main_v19 main_v21
  let main_cst_7 : FVec F S_ .f32 := constant S_ .f32 0x00000000#32
  let main_v23 : FVec F S768 .f32 := broadcastInDim S768 ![] bcast_S_S768 main_cst_7
  let main_v24 : IVec S768 1 := cmpf .oeq main_arg16 main_v23
  let main_v25 : IVec S768 1 := andi main_v22 main_v24
  let main_v26 : IVec S4x64 32 := (extractStridedSlice S4x64 ![0, 0] · slices_S4x128_S4x64_0_0) main_arg2
  let main_c : IVec S_ 32 := constantI S_ 32 0#32
  let main_v27 : IVec S4x64 32 := broadcastInDim S4x64 ![] bcast_S_S4x64 main_c
  let main_v28 : IVec S4x64 1 := cmpi .sge main_v26 main_v27
  let main_v29 : IVec S4x64 32 := (extractStridedSlice S4x64 ![0, 0] · slices_S4x128_S4x64_0_0) main_arg2
  let main_c_8 : IVec S_ 32 := constantI S_ 32 576#32
  let main_v30 : IVec S4x64 32 := broadcastInDim S4x64 ![] bcast_S_S4x64 main_c_8
  let main_v31 : IVec S4x64 1 := cmpi .slt main_v29 main_v30
  let main_v32 : IVec S4x64 1 := andi main_v28 main_v31
  let main_v33 : IVec S4x64x1 1 := broadcastInDim S4x64x1 ![0, 1] bcast_S4x64_S4x64x1_0_1 main_v32
  let main_v34 : IVec S1x1x768 1 := broadcastInDim S1x1x768 ![2] bcast_S768_S1x1x768_2 main_v25
  let main_v35 : IVec S4x64x768 1 := broadcastInDim S4x64x768 ![0, 1, 2] bcast_S4x64x1_S4x64x768_0_1_2 main_v33
  let main_v36 : IVec S4x64x768 1 := broadcastInDim S4x64x768 ![0, 1, 2] bcast_S1x1x768_S4x64x768_0_1_2 main_v34
  fn_part2 (F := F) main_v35 main_v36

def fn {F : FTy → Type} [FloatOps F] (main_arg0 : FVec F S4x576x768 .f32) (main_arg1 : FVec F S4x576x768 .f32) (main_arg2 : IVec S4x128 32) (main_arg3 : FVec F S768 .f32) (main_arg4 : FVec F S768 .f32) (main_arg5 : FVec F S768 .f32) (main_arg6 : FVec F S768 .f32) (main_arg7 : FVec F S768 .f32) (main_arg8 : FVec F S768 .f32) (main_arg9 : FVec F S768x768 .f32) (main_arg10 : FVec F S1536x768 .f32) (main_arg11 : FVec F S768x768 .f32) (main_arg12 : FVec F S768 .f32) (main_arg13 : FVec F S768x768 .f32) (main_arg14 : FVec F S768 .f32) (main_arg15 : FVec F S768x768 .f32) (main_arg16 : FVec F S768 .f32) : IVec S4x64x768 1 :=
  let main_cst : FVec F S_ .f32 := constant S_ .f32 0x3F800000#32
  let main_v0 : FVec F S768 .f32 := broadcastInDim S768 ![] bcast_S_S768 main_cst
  let main_v1 : IVec S768 1 := cmpf .oeq main_arg3 main_v0
  let main_cst_0 : FVec F S_ .f32 := constant S_ .f32 0x00000000#32
  let main_v2 : FVec F S768 .f32 := broadcastInDim S768 ![] bcast_S_S768 main_cst_0
  let main_v3 : IVec S768 1 := cmpf .oeq main_arg4 main_v2
  let main_v4 : IVec S768 1 := andi main_v1 main_v3
  let main_cst_1 : FVec F S_ .f32 := constant S_ .f32 0x3F800000#32
  let main_v5 : FVec F S768 .f32 := broadcastInDim S768 ![] bcast_S_S768 main_cst_1
  let main_v6 : IVec S768 1 := cmpf .oeq main_arg5 main_v5
  let main_v7 : IVec S768 1 := andi main_v4 main_v6
  let main_cst_2 : FVec F S_ .f32 := constant S_ .f32 0x00000000#32
  let main_v8 : FVec F S768 .f32 := broadcastInDim S768 ![] bcast_S_S768 main_cst_2
  let main_v9 : IVec S768 1 := cmpf .oeq main_arg6 main_v8
  let main_v10 : IVec S768 1 := andi main_v7 main_v9
  let main_cst_3 : FVec F S_ .f32 := constant S_ .f32 0x3F800000#32
  let main_v11 : FVec F S768 .f32 := broadcastInDim S768 ![] bcast_S_S768 main_cst_3
  let main_v12 : IVec S768 1 := cmpf .oeq main_arg7 main_v11
  let main_v13 : IVec S768 1 := andi main_v10 main_v12
  let main_cst_4 : FVec F S_ .f32 := constant S_ .f32 0x00000000#32
  let main_v14 : FVec F S768 .f32 := broadcastInDim S768 ![] bcast_S_S768 main_cst_4
  let main_v15 : IVec S768 1 := cmpf .oeq main_arg8 main_v14
  let main_v16 : IVec S768 1 := andi main_v13 main_v15
  let main_cst_5 : FVec F S_ .f32 := constant S_ .f32 0x00000000#32
  fn_part1 (F := F) main_arg2 main_arg12 main_arg14 main_arg16 main_v16 main_cst_5
-- ==== Pre_ids_in_range.lean ====
abbrev S4x576x768 : Shape := ⟨3, ![4, 576, 768]⟩
abbrev S4x128 : Shape := ⟨2, ![4, 128]⟩
abbrev S768 : Shape := ⟨1, ![768]⟩
abbrev S768x768 : Shape := ⟨2, ![768, 768]⟩
abbrev S1536x768 : Shape := ⟨2, ![1536, 768]⟩
abbrev S4x64 : Shape := ⟨2, ![4, 64]⟩
abbrev S_ : Shape := ⟨0, ![]⟩

class Facts : Prop where
  slices_S4x128_S4x64_0_0 : S4x128.Slices ![0, 0] S4x64
  bcast_S_S4x64 : S_.BroadcastsInDim S4x64 (![] : Fin 0 → Fin S4x64.rank)

variable [Facts]

def fn {F : FTy → Type} [FloatOps F] (main_arg0 : FVec F S4x576x768 .f32) (main_arg1 : FVec F S4x576x768 .f32) (main_arg2 : IVec S4x128 32) (main_arg3 : FVec F S768 .f32) (main_arg4 : FVec F S768 .f32) (main_arg5 : FVec F S768 .f32) (main_arg6 : FVec F S768 .f32) (main_arg7 : FVec F S768 .f32) (main_arg8 : FVec F S768 .f32) (main_arg9 : FVec F S768x768 .f32) (main_arg10 : FVec F S1536x768 .f32) (main_arg11 : FVec F S768x768 .f32) (main_arg12 : FVec F S768 .f32) (main_arg13 : FVec F S768x768 .f32) (main_arg14 : FVec F S768 .f32) (main_arg15 : FVec F S768x768 .f32) (main_arg16 : FVec F S768 .f32) : IVec S4x64 1 :=
  let main_v0 : IVec S4x64 32 := (extractStridedSlice S4x64 ![0, 0] · slices_S4x128_S4x64_0_0) main_arg2
  let main_c : IVec S_ 32 := constantI S_ 32 0#32
  let main_v1 : IVec S4x64 32 := broadcastInDim S4x64 ![] bcast_S_S4x64 main_c
  let main_v2 : IVec S4x64 1 := cmpi .sge main_v0 main_v1
  let main_v3 : IVec S4x64 32 := (extractStridedSlice S4x64 ![0, 0] · slices_S4x128_S4x64_0_0) main_arg2
  let main_c_0 : IVec S_ 32 := constantI S_ 32 576#32
  let main_v4 : IVec S4x64 32 := broadcastInDim S4x64 ![] bcast_S_S4x64 main_c_0
  let main_v5 : IVec S4x64 1 := cmpi .slt main_v3 main_v4
  let main_v6 : IVec S4x64 1 := andi main_v2 main_v5
  main_v6
-- ==== Kernel.lean ====
abbrev S4x576x768 : Shape := ⟨3, ![4, 576, 768]⟩
abbrev S4x128 : Shape := ⟨2, ![4, 128]⟩
abbrev S768 : Shape := ⟨1, ![768]⟩
abbrev S768x768 : Shape := ⟨2, ![768, 768]⟩
abbrev S1536x768 : Shape := ⟨2, ![1536, 768]⟩
abbrev S768x1536 : Shape := ⟨2, ![768, 1536]⟩
abbrev S4x72x576 : Shape := ⟨3, ![4, 72, 576]⟩
abbrev S4x72x1 : Shape := ⟨3, ![4, 72, 1]⟩
abbrev S4x1x576 : Shape := ⟨3, ![4, 1, 576]⟩
abbrev S4x1x768 : Shape := ⟨3, ![4, 1, 768]⟩
abbrev S1x576x768 : Shape := ⟨3, ![1, 576, 768]⟩
abbrev S1x72x576 : Shape := ⟨3, ![1, 72, 576]⟩
abbrev S1x72x1 : Shape := ⟨3, ![1, 72, 1]⟩
abbrev S1x1x576 : Shape := ⟨3, ![1, 1, 576]⟩
abbrev S1x1x768 : Shape := ⟨3, ![1, 1, 768]⟩
abbrev S576x768 : Shape := ⟨2, ![576, 768]⟩
abbrev S64x768 : Shape := ⟨2, ![64, 768]⟩
abbrev S576x128 : Shape := ⟨2, ![576, 128]⟩
abbrev S128x576 : Shape := ⟨2, ![128, 576]⟩
abbrev S576 : Shape := ⟨1, ![576]⟩
abbrev S1x576 : Shape := ⟨2, ![1, 576]⟩
abbrev S576x1 : Shape := ⟨2, ![576, 1]⟩
abbrev S576x1536 : Shape := ⟨2, ![576, 1536]⟩
abbrev S576x96 : Shape := ⟨2, ![576, 96]⟩
abbrev S576x576 : Shape := ⟨2, ![576, 576]⟩
abbrev S1x1 : Shape := ⟨2, ![1, 1]⟩
abbrev S1x768 : Shape := ⟨2, ![1, 768]⟩
abbrev S1x128 : Shape := ⟨2, ![1, 128]⟩
abbrev S128x1 : Shape := ⟨2, ![128, 1]⟩
abbrev S1 : Shape := ⟨1, ![1]⟩
abbrev S72x576 : Shape := ⟨2, ![72, 576]⟩
abbrev S72 : Shape := ⟨1, ![72]⟩
abbrev S72x1 : Shape := ⟨2, ![72, 1]⟩
abbrev S4x72 : Shape := ⟨2, ![4, 72]⟩
abbrev S4x576 : Shape := ⟨2, ![4, 576]⟩
abbrev S4x768x1 : Shape := ⟨3, ![4, 768, 1]⟩

abbrev nBuf : Space → Nat
  | .hbm => 30
  | .vmem => 21
  | .smem => 1
  | _ => 0

abbrev bufTy : (tb : Table) → Fin (tcTables nBuf tb) → BufTy
  | .hbm, ⟨0, _⟩ => ⟨S4x576x768, .f32⟩
  | .hbm, ⟨1, _⟩ => ⟨S4x576x768, .f32⟩
  | .hbm, ⟨2, _⟩ => ⟨S4x128, .i32⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768x768, .f32⟩
  | .hbm, ⟨10, _⟩ => ⟨S1536x768, .f32⟩
  | .hbm, ⟨11, _⟩ => ⟨S768x768, .f32⟩
  | .hbm, ⟨12, _⟩ => ⟨S768, .f32⟩
  | .hbm, ⟨13, _⟩ => ⟨S768x768, .f32⟩
  | .hbm, ⟨14, _⟩ => ⟨S768, .f32⟩
  | .hbm, ⟨15, _⟩ => ⟨S768x768, .f32⟩
  | .hbm, ⟨16, _⟩ => ⟨S768, .f32⟩
  | .hbm, ⟨17, _⟩ => ⟨S768x768, .f32⟩
  | .hbm, ⟨18, _⟩ => ⟨S768x1536, .f32⟩
  | .hbm, ⟨19, _⟩ => ⟨S768x768, .f32⟩
  | .hbm, ⟨20, _⟩ => ⟨S768x768, .f32⟩
  | .hbm, ⟨21, _⟩ => ⟨S768x768, .f32⟩
  | .hbm, ⟨22, _⟩ => ⟨S4x576x768, .f32⟩
  | .hbm, ⟨23, _⟩ => ⟨S4x72x576, .f32⟩
  | .hbm, ⟨24, _⟩ => ⟨S4x72x1, .i32⟩
  | .hbm, ⟨25, _⟩ => ⟨S4x1x576, .f32⟩
  | .hbm, ⟨26, _⟩ => ⟨S4x1x768, .f32⟩
  | .hbm, ⟨27, _⟩ => ⟨S4x72, .i32⟩
  | .hbm, ⟨28, _⟩ => ⟨S4x576, .f32⟩
  | .hbm, ⟨29, _⟩ => ⟨S4x768x1, .f32⟩
  | .local _ .vmem, ⟨0, _⟩ => ⟨S1x576x768, .f32⟩
  | .local _ .vmem, ⟨1, _⟩ => ⟨S1x576x768, .f32⟩
  | .local _ .vmem, ⟨2, _⟩ => ⟨S1x576x768, .f32⟩
  | .local _ .vmem, ⟨3, _⟩ => ⟨S1x576x768, .f32⟩
  | .local _ .vmem, ⟨4, _⟩ => ⟨S768x768, .f32⟩
  | .local _ .vmem, ⟨5, _⟩ => ⟨S768x1536, .f32⟩
  | .local _ .vmem, ⟨6, _⟩ => ⟨S768x768, .f32⟩
  | .local _ .vmem, ⟨7, _⟩ => ⟨S768x768, .f32⟩
  | .local _ .vmem, ⟨8, _⟩ => ⟨S768x768, .f32⟩
  | .local _ .vmem, ⟨9, _⟩ => ⟨S1x576x768, .f32⟩
  | .local _ .vmem, ⟨10, _⟩ => ⟨S1x576x768, .f32⟩
  | .local _ .vmem, ⟨11, _⟩ => ⟨S1x72x576, .f32⟩
  | .local _ .vmem, ⟨12, _⟩ => ⟨S1x72x576, .f32⟩
  | .local _ .vmem, ⟨13, _⟩ => ⟨S1x72x1, .i32⟩
  | .local _ .vmem, ⟨14, _⟩ => ⟨S1x72x1, .i32⟩
  | .local _ .vmem, ⟨15, _⟩ => ⟨S1x1x576, .f32⟩
  | .local _ .vmem, ⟨16, _⟩ => ⟨S1x1x576, .f32⟩
  | .local _ .vmem, ⟨17, _⟩ => ⟨S1x1x768, .f32⟩
  | .local _ .vmem, ⟨18, _⟩ => ⟨S1x1x768, .f32⟩
  | .local _ .vmem, ⟨19, _⟩ => ⟨S576x768, .bf16⟩
  | .local _ .vmem, ⟨20, _⟩ => ⟨S64x768, .f32⟩
  | .local _ .smem, ⟨0, _⟩ => ⟨S4x128, .i32⟩
  | _, _ => ⟨S4x576x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_v5_3 : Ref sig .tc := ⟨.hbm, 25, rfl⟩
abbrev main_v5_4 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c64_i32 : BitVec 32 := 64#32
  let v432 : BitVec 32 := Scalar.addi c0_i32 c64_i32
  let c1_i32 : BitVec 32 := 1#32
  ⟨c0_i32, v432, c1_i32⟩
def k0_off1 (i : grid0.Coords) (k0_t1 : Fin k0_t1_loop.trips) : Fin 2 → Nat :=
  let arg0 : BitVec 32 := BitVec.ofNat 32 (i 0).val
  let v550 : Index := Scalar.indexCast arg0
  let c0_i32 : BitVec 32 := 0#32
  let c1_i32 : BitVec 32 := 1#32
  let arg16 : BitVec 32 := Scf.iv c0_i32 c1_i32 k0_t1
  let v551 : Index := Scalar.indexCast arg16
  ![v550.toNat, v551.toNat]
def k0_off2 (v552 : BitVec 32) : Fin 3 → Nat :=
  let c0_157 : Index := 0#32
  let v553 : Index := Scalar.indexCast v552
  let c0_158 : Index := 0#32
  ![0, v553.toNat, 0]

def k0_chk1 (v552 : BitVec 32) : Prop :=
  (∀ a, (k0_off2 v552) a + S1x1x768.size a ≤ S1x576x768.size a)
theorem k0_off2_inb : ∀ (v552 : BitVec 32) (k0_hw1 : k0_chk1 v552), ∀ a, (k0_off2 v552) a + S1x1x768.size a ≤ S1x576x768.size a := fun v552 k0_hw1 => k0_hw1

def k0_off3 (k0_t1 : Fin k0_t1_loop.trips) : Fin 2 → Nat :=
  let c0_i32 : BitVec 32 := 0#32
  let c1_i32 : BitVec 32 := 1#32
  let arg16 : BitVec 32 := Scf.iv c0_i32 c1_i32 k0_t1
  let v556 : Index := Scalar.indexCast arg16
  let c0_159 : Index := 0#32
  ![v556.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x576x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x576x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x576x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x72x576 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x72x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x576 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4x576x768 : Shape := ⟨3, ![4, 576, 768]⟩
abbrev S4x128 : Shape := ⟨2, ![4, 128]⟩
abbrev S768 : Shape := ⟨1, ![768]⟩
abbrev S768x768 : Shape := ⟨2, ![768, 768]⟩
abbrev S1536x768 : Shape := ⟨2, ![1536, 768]⟩
abbrev S_ : Shape := ⟨0, ![]⟩
abbrev S4x576 : Shape := ⟨2, ![4, 576]⟩
abbrev S4x576x1 : Shape := ⟨3, ![4, 576, 1]⟩
abbrev S1x1x768 : Shape := ⟨3, ![1, 1, 768]⟩
abbrev S4x576x8x96 : Shape := ⟨4, ![4, 576, 8, 96]⟩
abbrev S4x8x576x96 : Shape := ⟨4, ![4, 8, 576, 96]⟩
abbrev S768x1536 : Shape := ⟨2, ![768, 1536]⟩
abbrev S4x576x1536 : Shape := ⟨3, ![4, 576, 1536]⟩
abbrev S4x576x2x8x96 : Shape := ⟨5, ![4, 576, 2, 8, 96]⟩
abbrev S2x4x8x576x96 : Shape := ⟨5, ![2, 4, 8, 576, 96]⟩
abbrev S1x4x8x576x96 : Shape := ⟨5, ![1, 4, 8, 576, 96]⟩
abbrev S4x8x96x576 : Shape := ⟨4, ![4, 8, 96, 576]⟩
abbrev S4x8x576x576 : Shape := ⟨4, ![4, 8, 576, 576]⟩
abbrev S4x8x576 : Shape := ⟨3, ![4, 8, 576]⟩
abbrev S4x8x576x1 : Shape := ⟨4, ![4, 8, 576, 1]⟩
abbrev S4x64 : Shape := ⟨2, ![4, 64]⟩
abbrev S4x64x1 : Shape := ⟨3, ![4, 64, 1]⟩
abbrev S4x64x768 : Shape := ⟨3, ![4, 64, 768]⟩
abbrev S4x64x768x1 : Shape := ⟨4, ![4, 64, 768, 1]⟩
abbrev S1 : Shape := ⟨1, ![1]⟩
abbrev S1x1x1x1 : Shape := ⟨4, ![1, 1, 1, 1]⟩
abbrev S4 : Shape := ⟨1, ![4]⟩
abbrev S4x768 : Shape := ⟨2, ![4, 768]⟩
abbrev S4x1 : Shape := ⟨2, ![4, 1]⟩
abbrev S4x1x768 : Shape := ⟨3, ![4, 1, 768]⟩
abbrev S4x72 : Shape := ⟨2, ![4, 72]⟩
abbrev S4x72x1 : Shape := ⟨3, ![4, 72, 1]⟩
abbrev S1x1x576 : Shape := ⟨3, ![1, 1, 576]⟩
abbrev S4x72x576 : Shape := ⟨3, ![4, 72, 576]⟩
abbrev S4x768x1 : Shape := ⟨3, ![4, 768, 1]⟩

abbrev nBuf : Space → Nat
  | .hbm => 409
  | .vmem => 0
  | .smem => 0
  | _ => 0

abbrev hbmTy0_0 (i : Nat) : BufTy := match i % 128 with
  | 0 => ⟨S4x576x768, .f32⟩
  | 1 => ⟨S4x576x768, .f32⟩
  | 2 => ⟨S4x128, .i32⟩
  | 3 => ⟨S768, .f32⟩
  | 4 => ⟨S768, .f32⟩
  | 5 => ⟨S768, .f32⟩
  | 6 => ⟨S768, .f32⟩
  | 7 => ⟨S768, .f32⟩
  | 8 => ⟨S768, .f32⟩
  | 9 => ⟨S768x768, .f32⟩
  | 10 => ⟨S1536x768, .f32⟩
  | 11 => ⟨S768x768, .f32⟩
  | 12 => ⟨S768, .f32⟩
  | 13 => ⟨S768x768, .f32⟩
  | 14 => ⟨S768, .f32⟩
  | 15 => ⟨S768x768, .f32⟩
  | 16 => ⟨S768, .f32⟩
  | 17 => ⟨S_, .f32⟩
  | 18 => ⟨S4x576, .f32⟩
  | 19 => ⟨S4x576x1, .f32⟩
  | 20 => ⟨S_, .f32⟩
  | 21 => ⟨S4x576x1, .f32⟩
  | 22 => ⟨S4x576x1, .f32⟩
  | 23 => ⟨S4x576x768, .f32⟩
  | 24 => ⟨S4x576x768, .f32⟩
  | 25 => ⟨S4x576x768, .f32⟩
  | 26 => ⟨S_, .f32⟩
  | 27 => ⟨S4x576, .f32⟩
  | 28 => ⟨S4x576x1, .f32⟩
  | 29 => ⟨S_, .f32⟩
  | 30 => ⟨S4x576x1, .f32⟩
  | 31 => ⟨S4x576x1, .f32⟩
  | 32 => ⟨S4x576x768, .f32⟩
  | 33 => ⟨S4x576x768, .f32⟩
  | 34 => ⟨S_, .f32⟩
  | 35 => ⟨S4x576x1, .f32⟩
  | 36 => ⟨S4x576x1, .f32⟩
  | 37 => ⟨S4x576x1, .f32⟩
  | 38 => ⟨S4x576x768, .f32⟩
  | 39 => ⟨S4x576x768, .f32⟩
  | 40 => ⟨S1x1x768, .f32⟩
  | 41 => ⟨S4x576x768, .f32⟩
  | 42 => ⟨S4x576x768, .f32⟩
  | 43 => ⟨S1x1x768, .f32⟩
  | 44 => ⟨S4x576x768, .f32⟩
  | 45 => ⟨S4x576x768, .f32⟩
  | 46 => ⟨S_, .f32⟩
  | 47 => ⟨S4x576, .f32⟩
  | 48 => ⟨S4x576x1, .f32⟩
  | 49 => ⟨S_, .f32⟩
  | 50 => ⟨S4x576x1, .f32⟩
  | 51 => ⟨S4x576x1, .f32⟩
  | 52 => ⟨S4x576x768, .f32⟩
  | 53 => ⟨S4x576x768, .f32⟩
  | 54 => ⟨S4x576x768, .f32⟩
  | 55 => ⟨S_, .f32⟩
  | 56 => ⟨S4x576, .f32⟩
  | 57 => ⟨S4x576x1, .f32⟩
  | 58 => ⟨S_, .f32⟩
  | 59 => ⟨S4x576x1, .f32⟩
  | 60 => ⟨S4x576x1, .f32⟩
  | 61 => ⟨S4x576x768, .f32⟩
  | 62 => ⟨S4x576x768, .f32⟩
  | 63 => ⟨S_, .f32⟩
  | 64 => ⟨S4x576x1, .f32⟩
  | 65 => ⟨S4x576x1, .f32⟩
  | 66 => ⟨S4x576x1, .f32⟩
  | 67 => ⟨S4x576x768, .f32⟩
  | 68 => ⟨S4x576x768, .f32⟩
  | 69 => ⟨S1x1x768, .f32⟩
  | 70 => ⟨S4x576x768, .f32⟩
  | 71 => ⟨S4x576x768, .f32⟩
  | 72 => ⟨S1x1x768, .f32⟩
  | 73 => ⟨S4x576x768, .f32⟩
  | 74 => ⟨S4x576x768, .f32⟩
  | 75 => ⟨S768x768, .f32⟩
  | 76 => ⟨S4x576x768, .f32⟩
  | 77 => ⟨S4x576x8x96, .f32⟩
  | 78 => ⟨S4x8x576x96, .f32⟩
  | 79 => ⟨S768x1536, .f32⟩
  | 80 => ⟨S4x576x1536, .f32⟩
  | 81 => ⟨S4x576x2x8x96, .f32⟩
  | 82 => ⟨S2x4x8x576x96, .f32⟩
  | 83 => ⟨S1x4x8x576x96, .f32⟩
  | 84 => ⟨S4x8x576x96, .f32⟩
  | 85 => ⟨S1x4x8x576x96, .f32⟩
  | 86 => ⟨S4x8x576x96, .f32⟩
  | 87 => ⟨S4x8x96x576, .f32⟩
  | 88 => ⟨S4x8x576x576, .f32⟩
  | 89 => ⟨S_, .f32⟩
  | 90 => ⟨S4x8x576x576, .f32⟩
  | 91 => ⟨S4x8x576x576, .f32⟩
  | 92 => ⟨S_, .f32⟩
  | 93 => ⟨S4x8x576, .f32⟩
  | 94 => ⟨S_, .f32⟩
  | 95 => ⟨S4x8x576, .f32⟩
  | 96 => ⟨S4x8x576, .f32⟩
  | 97 => ⟨S4x8x576x1, .f32⟩
  | 98 => ⟨S4x8x576x576, .f32⟩
  | 99 => ⟨S4x8x576x576, .f32⟩
  | 100 => ⟨S4x8x576x576, .f32⟩
  | 101 => ⟨S_, .f32⟩
  | 102 => ⟨S4x8x576, .f32⟩
  | 103 => ⟨S4x8x576x1, .f32⟩
  | 104 => ⟨S4x8x576x576, .f32⟩
  | 105 => ⟨S4x8x576x576, .f32⟩
  | 106 => ⟨S4x8x576x96, .f32⟩
  | 107 => ⟨S4x576x8x96, .f32⟩
  | 108 => ⟨S4x576x768, .f32⟩
  | 109 => ⟨S768x768, .f32⟩
  | 110 => ⟨S4x576x768, .f32⟩
  | 111 => ⟨S1x1x768, .f32⟩
  | 112 => ⟨S4x576x768, .f32⟩
  | 113 => ⟨S4x576x768, .f32⟩
  | 114 => ⟨S4x576x768, .f32⟩
  | 115 => ⟨S_, .f32⟩
  | 116 => ⟨S4x576, .f32⟩
  | 117 => ⟨S4x576x1, .f32⟩
  | 118 => ⟨S_, .f32⟩
  | 119 => ⟨S4x576x1, .f32⟩
  | 120 => ⟨S4x576x1, .f32⟩
  | 121 => ⟨S4x576x768, .f32⟩
  | 122 => ⟨S4x576x768, .f32⟩
  | 123 => ⟨S4x576x768, .f32⟩
  | 124 => ⟨S_, .f32⟩
  | 125 => ⟨S4x576, .f32⟩
  | 126 => ⟨S4x576x1, .f32⟩
  | 127 => ⟨S_, .f32⟩
  | _ => ⟨S4x576x768, .f32⟩

abbrev hbmTy0_1 (i : Nat) : BufTy := match i % 128 with
  | 0 => ⟨S4x576x1, .f32⟩
  | 1 => ⟨S4x576x1, .f32⟩
  | 2 => ⟨S4x576x768, .f32⟩
  | 3 => ⟨S4x576x768, .f32⟩
  | 4 => ⟨S_, .f32⟩
  | 5 => ⟨S4x576x1, .f32⟩
  | 6 => ⟨S4x576x1, .f32⟩
  | 7 => ⟨S4x576x1, .f32⟩
  | 8 => ⟨S4x576x768, .f32⟩
  | 9 => ⟨S4x576x768, .f32⟩
  | 10 => ⟨S1x1x768, .f32⟩
  | 11 => ⟨S4x576x768, .f32⟩
  | 12 => ⟨S4x576x768, .f32⟩
  | 13 => ⟨S1x1x768, .f32⟩
  | 14 => ⟨S4x576x768, .f32⟩
  | 15 => ⟨S4x576x768, .f32⟩
  | 16 => ⟨S768x768, .f32⟩
  | 17 => ⟨S4x576x768, .f32⟩
  | 18 => ⟨S1x1x768, .f32⟩
  | 19 => ⟨S4x576x768, .f32⟩
  | 20 => ⟨S4x576x768, .f32⟩
  | 21 => ⟨S_, .f32⟩
  | 22 => ⟨S4x576x768, .f32⟩
  | 23 => ⟨S4x576x768, .f32⟩
  | 24 => ⟨S4x576x768, .f32⟩
  | 25 => ⟨S_, .f32⟩
  | 26 => ⟨S4x576x768, .f32⟩
  | 27 => ⟨S4x576x768, .f32⟩
  | 28 => ⟨S4x576x768, .f32⟩
  | 29 => ⟨S_, .f32⟩
  | 30 => ⟨S4x576x768, .f32⟩
  | 31 => ⟨S4x576x768, .f32⟩
  | 32 => ⟨S4x576x768, .f32⟩
  | 33 => ⟨S4x576x768, .f32⟩
  | 34 => ⟨S4x576x768, .f32⟩
  | 35 => ⟨S4x576x768, .f32⟩
  | 36 => ⟨S4x576x768, .f32⟩
  | 37 => ⟨S4x576x768, .f32⟩
  | 38 => ⟨S_, .f32⟩
  | 39 => ⟨S4x576x768, .f32⟩
  | 40 => ⟨S4x576x768, .i1⟩
  | 41 => ⟨S_, .f32⟩
  | 42 => ⟨S4x576x768, .f32⟩
  | 43 => ⟨S4x576x768, .f32⟩
  | 44 => ⟨S_, .f32⟩
  | 45 => ⟨S4x576x768, .f32⟩
  | 46 => ⟨S4x576x768, .f32⟩
  | 47 => ⟨S4x576x768, .f32⟩
  | 48 => ⟨S_, .f32⟩
  | 49 => ⟨S4x576x768, .f32⟩
  | 50 => ⟨S4x576x768, .f32⟩
  | 51 => ⟨S4x576x768, .f32⟩
  | 52 => ⟨S_, .f32⟩
  | 53 => ⟨S4x576x768, .f32⟩
  | 54 => ⟨S4x576x768, .f32⟩
  | 55 => ⟨S4x576x768, .f32⟩
  | 56 => ⟨S_, .f32⟩
  | 57 => ⟨S4x576x768, .f32⟩
  | 58 => ⟨S4x576x768, .f32⟩
  | 59 => ⟨S4x576x768, .f32⟩
  | 60 => ⟨S_, .f32⟩
  | 61 => ⟨S4x576x768, .f32⟩
  | 62 => ⟨S4x576x768, .f32⟩
  | 63 => ⟨S4x576x768, .f32⟩
  | 64 => ⟨S_, .f32⟩
  | 65 => ⟨S4x576x768, .f32⟩
  | 66 => ⟨S4x576x768, .f32⟩
  | 67 => ⟨S4x576x768, .f32⟩
  | 68 => ⟨S_, .f32⟩
  | 69 => ⟨S4x576x768, .f32⟩
  | 70 => ⟨S4x576x768, .f32⟩
  | 71 => ⟨S4x576x768, .f32⟩
  | 72 => ⟨S_, .f32⟩
  | 73 => ⟨S4x576x768, .f32⟩
  | 74 => ⟨S4x576x768, .f32⟩
  | 75 => ⟨S_, .f32⟩
  | 76 => ⟨S4x576x768, .f32⟩
  | 77 => ⟨S4x576x768, .f32⟩
  | 78 => ⟨S_, .f32⟩
  | 79 => ⟨S4x576x768, .f32⟩
  | 80 => ⟨S4x576x768, .f32⟩
  | 81 => ⟨S4x576x768, .f32⟩
  | 82 => ⟨S_, .f32⟩
  | 83 => ⟨S4x576x768, .f32⟩
  | 84 => ⟨S4x576x768, .f32⟩
  | 85 => ⟨S4x576x768, .f32⟩
  | 86 => ⟨S_, .f32⟩
  | 87 => ⟨S4x576x768, .f32⟩
  | 88 => ⟨S4x576x768, .f32⟩
  | 89 => ⟨S4x576x768, .f32⟩
  | 90 => ⟨S_, .f32⟩
  | 91 => ⟨S4x576x768, .f32⟩
  | 92 => ⟨S4x576x768, .f32⟩
  | 93 => ⟨S4x576x768, .f32⟩
  | 94 => ⟨S_, .f32⟩
  | 95 => ⟨S4x576x768, .f32⟩
  | 96 => ⟨S4x576x768, .f32⟩
  | 97 => ⟨S4x576x768, .f32⟩
  | 98 => ⟨S_, .f32⟩
  | 99 => ⟨S4x576x768, .f32⟩
  | 100 => ⟨S4x576x768, .f32⟩
  | 101 => ⟨S4x576x768, .f32⟩
  | 102 => ⟨S_, .f32⟩
  | 103 => ⟨S4x576x768, .f32⟩
  | 104 => ⟨S4x576x768, .f32⟩
  | 105 => ⟨S4x576x768, .f32⟩
  | 106 => ⟨S4x576x768, .f32⟩
  | 107 => ⟨S4x576x768, .f32⟩
  | 108 => ⟨S4x576x768, .f32⟩
  | 109 => ⟨S_, .f32⟩
  | 110 => ⟨S4x576x768, .f32⟩
  | 111 => ⟨S4x576x768, .i1⟩
  | 112 => ⟨S_, .f32⟩
  | 113 => ⟨S_, .f32⟩
  | 114 => ⟨S4x576x768, .f32⟩
  | 115 => ⟨S4x576x768, .f32⟩
  | 116 => ⟨S4x576x768, .f32⟩
  | 117 => ⟨S_, .f32⟩
  | 118 => ⟨S4x576x768, .f32⟩
  | 119 => ⟨S4x576x768, .i1⟩
  | 120 => ⟨S4x576x768, .f32⟩
  | 121 => ⟨S_, .f32⟩
  | 122 => ⟨S4x576x768, .f32⟩
  | 123 => ⟨S4x576x768, .f32⟩
  | 124 => ⟨S_, .f32⟩
  | 125 => ⟨S4x576x768, .f32⟩
  | 126 => ⟨S4x576x768, .f32⟩
  | 127 => ⟨S4x576x768, .f32⟩
  | _ => ⟨S4x576x768, .f32⟩

abbrev hbmTy0_2 (i : Nat) : BufTy := match i % 128 with
  | 0 => ⟨S_, .f32⟩
  | 1 => ⟨S4x576x768, .f32⟩
  | 2 => ⟨S4x576x768, .f32⟩
  | 3 => ⟨S4x576x768, .f32⟩
  | 4 => ⟨S_, .f32⟩
  | 5 => ⟨S4x576x768, .f32⟩
  | 6 => ⟨S4x576x768, .f32⟩
  | 7 => ⟨S4x576x768, .f32⟩
  | 8 => ⟨S_, .f32⟩
  | 9 => ⟨S4x576x768, .f32⟩
  | 10 => ⟨S4x576x768, .f32⟩
  | 11 => ⟨S4x576x768, .f32⟩
  | 12 => ⟨S_, .f32⟩
  | 13 => ⟨S4x576x768, .f32⟩
  | 14 => ⟨S4x576x768, .f32⟩
  | 15 => ⟨S4x576x768, .f32⟩
  | 16 => ⟨S_, .f32⟩
  | 17 => ⟨S4x576x768, .f32⟩
  | 18 => ⟨S4x576x768, .f32⟩
  | 19 => ⟨S4x576x768, .f32⟩
  | 20 => ⟨S_, .f32⟩
  | 21 => ⟨S4x576x768, .f32⟩
  | 22 => ⟨S4x576x768, .f32⟩
  | 23 => ⟨S_, .f32⟩
  | 24 => ⟨S4x576x768, .f32⟩
  | 25 => ⟨S4x576x768, .i1⟩
  | 26 => ⟨S_, .f32⟩
  | 27 => ⟨S4x576x768, .f32⟩
  | 28 => ⟨S4x576x768, .f32⟩
  | 29 => ⟨S4x576x768, .f32⟩
  | 30 => ⟨S4x576x768, .f32⟩
  | 31 => ⟨S4x576x768, .f32⟩
  | 32 => ⟨S768x768, .f32⟩
  | 33 => ⟨S4x576x768, .f32⟩
  | 34 => ⟨S1x1x768, .f32⟩
  | 35 => ⟨S4x576x768, .f32⟩
  | 36 => ⟨S4x576x768, .f32⟩
  | 37 => ⟨S4x576x768, .f32⟩
  | 38 => ⟨S4x64, .i32⟩
  | 39 => ⟨S_, .i32⟩
  | 40 => ⟨S4x64, .i32⟩
  | 41 => ⟨S4x64, .i1⟩
  | 42 => ⟨S_, .i32⟩
  | 43 => ⟨S_, .i32⟩
  | 44 => ⟨S4x64, .i32⟩
  | 45 => ⟨S4x64, .i32⟩
  | 46 => ⟨S4x64x1, .i32⟩
  | 47 => ⟨S4x64x768, .i32⟩
  | 48 => ⟨S_, .i32⟩
  | 49 => ⟨S4x64x768, .i32⟩
  | 50 => ⟨S4x64x768, .i1⟩
  | 51 => ⟨S_, .i32⟩
  | 52 => ⟨S4x64x768, .i32⟩
  | 53 => ⟨S4x64x768, .i32⟩
  | 54 => ⟨S4x64x768, .i32⟩
  | 55 => ⟨S4x64x768x1, .i32⟩
  | 56 => ⟨S1, .i32⟩
  | 57 => ⟨S_, .i32⟩
  | 58 => ⟨S4x64x768x1, .i32⟩
  | 59 => ⟨S4x64x768x1, .i1⟩
  | 60 => ⟨S1x1x1x1, .i32⟩
  | 61 => ⟨S4x64x768x1, .i32⟩
  | 62 => ⟨S4x64x768x1, .i1⟩
  | 63 => ⟨S4x64x768x1, .i1⟩
  | 64 => ⟨S_, .i1⟩
  | 65 => ⟨S4x64x768, .i1⟩
  | 66 => ⟨S4x64x768, .f32⟩
  | 67 => ⟨S_, .f32⟩
  | 68 => ⟨S4x64x768, .f32⟩
  | 69 => ⟨S4x64x768, .f32⟩
  | 70 => ⟨S4x64x1, .i1⟩
  | 71 => ⟨S4x64x1, .f32⟩
  | 72 => ⟨S4x64x768, .f32⟩
  | 73 => ⟨S4x64x768, .f32⟩
  | 74 => ⟨S4x64, .i32⟩
  | 75 => ⟨S_, .i32⟩
  | 76 => ⟨S4, .i32⟩
  | 77 => ⟨S_, .i32⟩
  | 78 => ⟨S4, .i32⟩
  | 79 => ⟨S4, .i1⟩
  | 80 => ⟨S_, .f32⟩
  | 81 => ⟨S4x768, .f32⟩
  | 82 => ⟨S_, .i32⟩
  | 83 => ⟨S4, .i32⟩
  | 84 => ⟨S4, .i32⟩
  | 85 => ⟨S4x1, .i32⟩
  | 86 => ⟨S4x1, .f32⟩
  | 87 => ⟨S4x768, .f32⟩
  | 88 => ⟨S4x768, .f32⟩
  | 89 => ⟨S_, .f32⟩
  | 90 => ⟨S4x768, .f32⟩
  | 91 => ⟨S_, .f32⟩
  | 92 => ⟨S4x768, .f32⟩
  | 93 => ⟨S4x768, .f32⟩
  | 94 => ⟨S4x1, .i1⟩
  | 95 => ⟨S4x768, .i1⟩
  | 96 => ⟨S4x768, .f32⟩
  | 97 => ⟨S4x1x768, .f32⟩
  | 98 => ⟨S4x576x768, .f32⟩
  | 99 => ⟨S4x576x768, .f32⟩
  | 100 => ⟨S_, .f32⟩
  | 101 => ⟨S4x576, .f32⟩
  | 102 => ⟨S4x576x768, .f32⟩
  | 103 => ⟨S_, .f32⟩
  | 104 => ⟨S4x576, .f32⟩
  | 105 => ⟨S4x576, .f32⟩
  | 106 => ⟨S_, .f32⟩
  | 107 => ⟨S4x576, .f32⟩
  | 108 => ⟨S4x576, .f32⟩
  | 109 => ⟨S4x768, .f32⟩
  | 110 => ⟨S_, .f32⟩
  | 111 => ⟨S4, .f32⟩
  | 112 => ⟨S4, .f32⟩
  | 113 => ⟨S_, .f32⟩
  | 114 => ⟨S4, .f32⟩
  | 115 => ⟨S4, .f32⟩
  | 116 => ⟨S4x1, .f32⟩
  | 117 => ⟨S4x576, .f32⟩
  | 118 => ⟨S4x576, .f32⟩
  | 119 => ⟨S4x576, .f32⟩
  | 120 => ⟨S_, .f32⟩
  | 121 => ⟨S4x576, .f32⟩
  | 122 => ⟨S4x576, .f32⟩
  | 123 => ⟨S_, .f32⟩
  | 124 => ⟨S4x576, .f32⟩
  | 125 => ⟨S4x576, .f32⟩
  | 126 => ⟨S_, .f32⟩
  | 127 => ⟨S_, .f32⟩
  | _ => ⟨S4x576x768, .f32⟩

abbrev hbmTy0_3 (i : Nat) : BufTy := match i % 128 with
  | 0 => ⟨S4, .f32⟩
  | 1 => ⟨S4, .f32⟩
  | 2 => ⟨S4, .f32⟩
  | 3 => ⟨S4x1, .f32⟩
  | 4 => ⟨S4x1, .f32⟩
  | 5 => ⟨S4x576, .f32⟩
  | 6 => ⟨S4x576, .f32⟩
  | 7 => ⟨S4x72, .f32⟩
  | 8 => ⟨S4x72, .i32⟩
  | 9 => ⟨S4x72x1, .i32⟩
  | 10 => ⟨S1x1x576, .i32⟩
  | 11 => ⟨S4x72x576, .i32⟩
  | 12 => ⟨S4x72x576, .i32⟩
  | 13 => ⟨S4x72x576, .i1⟩
  | 14 => ⟨S4x72x576, .f32⟩
  | 15 => ⟨S4x72x1, .f32⟩
  | 16 => ⟨S4x72x576, .f32⟩
  | 17 => ⟨S4x72x576, .f32⟩
  | 18 => ⟨S_, .f32⟩
  | 19 => ⟨S4x72x576, .f32⟩
  | 20 => ⟨S4x72x576, .i1⟩
  | 21 => ⟨S4x72x576, .f32⟩
  | 22 => ⟨S4x72x576, .f32⟩
  | 23 => ⟨S4x72x576, .f32⟩
  | 24 => ⟨S4x768x1, .f32⟩
  | _ => ⟨S4x576x768, .f32⟩

abbrev hbmTy (i : Nat) : BufTy := match i / 128 with
  | 0 => hbmTy0_0 i
  | 1 => hbmTy0_1 i
  | 2 => hbmTy0_2 i
  | 3 => hbmTy0_3 i
  | _ => ⟨S4x576x768, .f32⟩

abbrev bufTy : (tb : Table) → Fin (tcTables nBuf tb) → BufTy
  | .hbm, ⟨i, _⟩ => hbmTy i
  | _, _ => ⟨S4x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_13 : Ref sig .tc := ⟨.hbm, 115, rfl⟩
abbrev main_v84 : Ref sig .tc := ⟨.hbm, 116, rfl⟩
abbrev main_v85 : Ref sig .tc := ⟨.hbm, 117, rfl⟩
abbrev main_cst_14 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_15 : Ref sig .tc := ⟨.hbm, 124, rfl⟩
abbrev main_v91 : Ref sig .tc := ⟨.hbm, 125, rfl⟩
abbrev main_v92 : Ref sig .tc := ⟨.hbm, 126, rfl⟩
abbrev main_cst_16 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_17 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_18 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_19 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_20 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_21 : Ref sig .tc := ⟨.hbm, 166, rfl⟩
abbrev main_v127 : Ref sig .tc := ⟨.hbm, 167, rfl⟩
abbrev main_v128 : Ref sig .tc := ⟨.hbm, 168, rfl⟩
abbrev main_cst_22 : Ref sig .tc := ⟨.hbm, 169, rfl⟩
abbrev main_v129 : Ref sig .tc := ⟨.hbm, 170, rfl⟩
abbrev main_v130 : Ref sig .tc := ⟨.hbm, 171, rfl⟩
abbrev main_cst_23 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_24 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_cst_25 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_26 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_27 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_28 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_29 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_30 : Ref sig .tc := ⟨.hbm, 200, rfl⟩
abbrev main_v152 : Ref sig .tc := ⟨.hbm, 201, rfl⟩
abbrev main_v153 : Ref sig .tc := ⟨.hbm, 202, rfl⟩
abbrev main_cst_31 : Ref sig .tc := ⟨.hbm, 203, rfl⟩
abbrev main_v154 : Ref sig .tc := ⟨.hbm, 204, rfl⟩
abbrev main_v155 : Ref sig .tc := ⟨.hbm, 205, rfl⟩
abbrev main_cst_32 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_cst_33 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_cst_34 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_cst_35 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_cst_36 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_cst_37 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_cst_38 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_cst_39 : Ref sig .tc := ⟨.hbm, 237, rfl⟩
abbrev main_v180 : Ref sig .tc := ⟨.hbm, 238, rfl⟩
abbrev main_v181 : Ref sig .tc := ⟨.hbm, 239, rfl⟩
abbrev main_cst_40 : Ref sig .tc := ⟨.hbm, 240, rfl⟩
abbrev main_call1_v0 : Ref sig .tc := ⟨.hbm, 241, rfl⟩
abbrev main_call1_v1 : Ref sig .tc := ⟨.hbm, 242, rfl⟩
abbrev main_v182 : Ref sig .tc := ⟨.hbm, 243, rfl⟩
abbrev main_v183 : Ref sig .tc := ⟨.hbm, 244, rfl⟩
abbrev main_cst_41 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_cst_42 : Ref sig .tc := ⟨.hbm, 249, rfl⟩
abbrev main_v187 : Ref sig .tc := ⟨.hbm, 250, rfl⟩
abbrev main_v188 : Ref sig .tc := ⟨.hbm, 251, rfl⟩
abbrev main_cst_43 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_cst_44 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_cst_45 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_cst_46 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_cst_47 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_cst_48 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_cst_49 : Ref sig .tc := ⟨.hbm, 276, rfl⟩
abbrev main_v207 : Ref sig .tc := ⟨.hbm, 277, rfl⟩
abbrev main_v208 : Ref sig .tc := ⟨.hbm, 278, rfl⟩
abbrev main_cst_50 : Ref sig .tc := ⟨.hbm, 279, rfl⟩
abbrev main_v209 : Ref sig .tc := ⟨.hbm, 280, rfl⟩
abbrev main_v210 : Ref sig .tc := ⟨.hbm, 281, rfl⟩
abbrev main_cst_51 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_c : Ref sig .tc := ⟨.hbm, 295, rfl⟩
abbrev main_v223 : Ref sig .tc := ⟨.hbm, 296, rfl⟩
abbrev main_v224 : Ref sig .tc := ⟨.hbm, 297, rfl⟩
abbrev main_c_52 : Ref sig .tc := ⟨.hbm, 298, rfl⟩
abbrev main_call4_v0 : Ref sig .tc := ⟨.hbm, 299, rfl⟩
abbrev main_call4_v1 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_call5_c : Ref sig .tc := ⟨.hbm, 304, rfl⟩
abbrev main_call5_v0 : Ref sig .tc := ⟨.hbm, 305, rfl⟩
abbrev main_call5_v1 : Ref sig .tc := ⟨.hbm, 306, rfl⟩
abbrev main_call5_c_0 : Ref sig .tc := ⟨.hbm, 307, rfl⟩
abbrev main_call5_v2 : Ref sig .tc := ⟨.hbm, 308, rfl⟩
abbrev main_call5_v3 : Ref sig .tc := ⟨.hbm, 309, rfl⟩
abbrev main_call5_v4 : Ref sig .tc := ⟨.hbm, 310, rfl⟩
abbrev main_call5_v5 : Ref sig .tc := ⟨.hbm, 311, rfl⟩
abbrev main_call5_c_1 : Ref sig .tc := ⟨.hbm, 312, rfl⟩
abbrev main_call5_c_2 : Ref sig .tc := ⟨.hbm, 313, rfl⟩
abbrev main_call5_v6 : Ref sig .tc := ⟨.hbm, 314, rfl⟩
abbrev main_call5_v7 : Ref sig .tc := ⟨.hbm, 315, rfl⟩
abbrev main_call5_v8 : Ref sig .tc := ⟨.hbm, 316, rfl⟩
abbrev main_call5_v9 : Ref sig .tc := ⟨.hbm, 317, rfl⟩
abbrev main_call5_v10 : Ref sig .tc := ⟨.hbm, 318, rfl⟩
abbrev main_call5_v11 : Ref sig .tc := ⟨.hbm, 319, rfl⟩
abbrev main_call5_c_3 : Ref sig .tc := ⟨.hbm, 320, rfl⟩
abbrev main_call5_v12 : Ref sig .tc := ⟨.hbm, 321, rfl⟩
abbrev main_call5_v13 : Ref sig .tc := ⟨.hbm, 322, rfl⟩
abbrev main_call5_cst : Ref sig .tc := ⟨.hbm, 323, rfl⟩
abbrev main_call5_v14 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_c_53 : Ref sig .tc := ⟨.hbm, 331, rfl⟩
abbrev main_v234 : Ref sig .tc := ⟨.hbm, 332, rfl⟩
abbrev main_c_54 : Ref sig .tc := ⟨.hbm, 333, rfl⟩
abbrev main_v235 : Ref sig .tc := ⟨.hbm, 334, rfl⟩
abbrev main_v236 : Ref sig .tc := ⟨.hbm, 335, rfl⟩
abbrev main_cst_55 : Ref sig .tc := ⟨.hbm, 336, rfl⟩
abbrev main_v237 : Ref sig .tc := ⟨.hbm, 337, rfl⟩
abbrev main_c_56 : Ref sig .tc := ⟨.hbm, 338, rfl⟩
abbrev main_v238 : Ref sig .tc := ⟨.hbm, 339, rfl⟩
abbrev main_v239 : Ref sig .tc := ⟨.hbm, 340, rfl⟩
abbrev main_v240 : Ref sig .tc := ⟨.hbm, 341, rfl⟩
abbrev main_v241 : Ref sig .tc := ⟨.hbm, 342, rfl⟩
abbrev main_v242 : Ref sig .tc := ⟨.hbm, 343, rfl⟩
abbrev main_v243 : Ref sig .tc := ⟨.hbm, 344, rfl⟩
abbrev main_cst_57 : Ref sig .tc := ⟨.hbm, 345, rfl⟩
abbrev main_v244 : Ref sig .tc := ⟨.hbm, 346, rfl⟩
abbrev main_cst_58 : Ref sig .tc := ⟨.hbm, 347, rfl⟩
abbrev main_v245 : Ref sig .tc := ⟨.hbm, 348, rfl⟩
abbrev main_v246 : Ref sig .tc := ⟨.hbm, 349, rfl⟩
abbrev main_v247 : Ref sig .tc := ⟨.hbm, 350, rfl⟩
abbrev main_call6_v0 : Ref sig .tc := ⟨.hbm, 351, rfl⟩
abbrev main_v248 : Ref sig .tc := ⟨.hbm, 352, rfl⟩
abbrev main_v249 : Ref sig .tc := ⟨.hbm, 353, rfl⟩
abbrev main_v250 : Ref sig .tc := ⟨.hbm, 354, rfl⟩
abbrev main_v251 : Ref sig .tc := ⟨.hbm, 355, rfl⟩
abbrev main_cst_59 : Ref sig .tc := ⟨.hbm, 356, rfl⟩
abbrev main_v252 : Ref sig .tc := ⟨.hbm, 357, rfl⟩
abbrev main_call7_v0 : Ref sig .tc := ⟨.hbm, 358, rfl⟩
abbrev main_call7_cst : Ref sig .tc := ⟨.hbm, 359, rfl⟩
abbrev main_call7_v1 : Ref sig .tc := ⟨.hbm, 360, rfl⟩
abbrev main_v253 : Ref sig .tc := ⟨.hbm, 361, rfl⟩
abbrev main_cst_60 : Ref sig .tc := ⟨.hbm, 362, rfl⟩
abbrev main_v254 : Ref sig .tc := ⟨.hbm, 363, rfl⟩
abbrev main_v255 : Ref sig .tc := ⟨.hbm, 364, rfl⟩
abbrev main_call8_v0 : Ref sig .tc := ⟨.hbm, 365, rfl⟩
abbrev main_call8_cst : Ref sig .tc := ⟨.hbm, 366, rfl⟩
abbrev main_call8_v1 : Ref sig .tc := ⟨.hbm, 367, rfl⟩
abbrev main_v256 : Ref sig .tc := ⟨.hbm, 368, rfl⟩
abbrev main_cst_61 : Ref sig .tc := ⟨.hbm, 369, rfl⟩
abbrev main_v257 : Ref sig .tc := ⟨.hbm, 370, rfl⟩
abbrev main_v258 : Ref sig .tc := ⟨.hbm, 371, rfl⟩
abbrev main_v259 : Ref sig .tc := ⟨.hbm, 372, rfl⟩
abbrev main_v260 : Ref sig .tc := ⟨.hbm, 373, rfl⟩
abbrev main_v261 : Ref sig .tc := ⟨.hbm, 374, rfl⟩
abbrev main_v262 : Ref sig .tc := ⟨.hbm, 375, rfl⟩
abbrev main_cst_62 : Ref sig .tc := ⟨.hbm, 376, rfl⟩
abbrev main_v263 : Ref sig .tc := ⟨.hbm, 377, rfl⟩
abbrev main_v264 : Ref sig .tc := ⟨.hbm, 378, rfl⟩
abbrev main_cst_63 : Ref sig .tc := ⟨.hbm, 379, rfl⟩
abbrev main_v265 : Ref sig .tc := ⟨.hbm, 380, rfl⟩
abbrev main_v266 : Ref sig .tc := ⟨.hbm, 381, rfl⟩
abbrev main_cst_64 : Ref sig .tc := ⟨.hbm, 382, rfl⟩
abbrev main_cst_65 : Ref sig .tc := ⟨.hbm, 383, rfl⟩
abbrev main_call9_v0 : Ref sig .tc := ⟨.hbm, 384, rfl⟩
abbrev main_call9_v1 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_values : Ref sig .tc := ⟨.hbm, 391, rfl⟩
abbrev main_indices : Ref sig .tc := ⟨.hbm, 392, rfl⟩
abbrev main_call10_v0 : Ref sig .tc := ⟨.hbm, 393, rfl⟩
abbrev main_call10_v1 : Ref sig .tc := ⟨.hbm, 394, rfl⟩
abbrev main_call10_v2 : Ref sig .tc := ⟨.hbm, 395, rfl⟩
abbrev main_call10_v3 : Ref sig .tc := ⟨.hbm, 396, rfl⟩
abbrev main_call10_v4 : Ref sig .tc := ⟨.hbm, 397, rfl⟩
abbrev main_v272 : Ref sig .tc := ⟨.hbm, 398, rfl⟩
abbrev main_v273 : Ref sig .tc := ⟨.hbm, 399, rfl⟩
abbrev main_v274 : Ref sig .tc := ⟨.hbm, 400, rfl⟩
abbrev main_v275 : Ref sig .tc := ⟨.hbm, 401, rfl⟩
abbrev main_cst_66 : Ref sig .tc := ⟨.hbm, 402, rfl⟩
abbrev main_v276 : Ref sig .tc := ⟨.hbm, 403, rfl⟩
abbrev main_v277 : Ref sig .tc := ⟨.hbm, 404, rfl⟩
abbrev main_v278 : Ref sig .tc := ⟨.hbm, 405, rfl⟩
abbrev main_v279 : Ref sig .tc := ⟨.hbm, 406, rfl⟩
abbrev main_v280 : Ref sig .tc := ⟨.hbm, 407, rfl⟩
abbrev main_v281 : Ref sig .tc := ⟨.hbm, 408, rfl⟩

abbrev nD : Nat := 1
abbrev τ : Topo := Topo.v7x

variable {F : FTy → Type} [FloatOps F]
-- ==== Proof.LoopKernelIdeal.lean ====
/- The kernel's counted loop: trip `k` reads the word `ids[b, k]`, loads the row of `x_b` that the word names and
   stores it in row `k` of the second scratch buffer. The trip is run once, at a symbolic `k`; the invariant is that the
   scratch buffer holds the rows of the trips before `k`, written over what it held at entry. -/
module

public import proofs.«01_k».proof.Proof.Gen.KernelIdeal.Skeleton
public import proofs.«01_k».proof.Proof.Gen.KernelIdeal.Loops
public import Idealize.ShloMosaic.Lib.Tactic
public import Idealize.ShloMosaic.Lib.Exec
public import Idealize.ShloMosaic.Lib.Ring
public import Idealize.ShloMosaic.Lib.Pipeline.Kit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word that trip `k` reads, of the words' buffer at contents `X`. -/
abbrev wordAt (i : grid0.Coords) (arg1 : Memref sig .tc .smem S4x128 .i32) (X : BufTy.Contents (Elt F) arg1.view.ty) (k : Fin k0_t1_loop.trips) : Elt F .i32 :=
  arg1.view.readAt (Elt F) (Rect.unit (s := S4x128) (k0_off1 i k) S1x1.size (k0_off1_inb i k)).toLoadRect X (Shape.Idx.first (numel1_S1x1.symm ▸ Nat.one_pos))

/-- What a trip holds: the words and the image's rows at their contents, the scratch buffer at any. -/
abbrev Trip (c : Dev nD) (arg1 : Memref sig .tc .smem S4x128 .i32) (arg2 : Memref sig .tc .vmem S1x576x768 .f32) (arg15 : Memref sig .tc .vmem S64x768 .f32)
    (X1 : BufTy.Contents (Elt F) arg1.view.ty) (X2 : BufTy.Contents (Elt F) arg2.view.ty) (f : BufTy.Contents (Elt F) arg15.view.ty) : sProp 𝕄 :=
  iprop((arg1.view.loc (c : Thread nD τ) ↦[arg1.view.set]{fullShare} X1) ∗ (arg2.view.loc (c : Thread nD τ) ↦[arg2.view.set]{fullShare} X2) ∗ (arg15.view.loc (c : Thread nD τ) ↦[arg15.view.set]{fullShare} f))

/-- What trip `k` stores: row `k`, at the row of the image that the word names. -/
def rowPiece (i : grid0.Coords) (arg1 : Memref sig .tc .smem S4x128 .i32) (arg2 : Memref sig .tc .vmem S1x576x768 .f32) (X1 : BufTy.Contents (Elt F) arg1.view.ty) (X2 : BufTy.Contents (Elt F) arg2.view.ty)
    (H : ∀ k, k0_chk1 (wordAt (F := F) i arg1 X1 k)) (k : Fin k0_t1_loop.trips) : View.Piece (Elt F) S64x768 .f32 :=
  ⟨Rect.unit (s := S64x768) (k0_off3 k) S1x768.size (k0_off3_inb k),
    k0_pay38 (arg2.view.readAt (Elt F) (Rect.unit (s := S1x576x768) (k0_off2 (wordAt i arg1 X1 k)) S1x1x768.size (k0_off2_inb _ (H k))).toLoadRect X2)⟩

/-- The stores of the trips before `n`, the last first. -/
def rowPieces (i : grid0.Coords) (arg1 : Memref sig .tc .smem S4x128 .i32) (arg2 : Memref sig .tc .vmem S1x576x768 .f32) (X1 : BufTy.Contents (Elt F) arg1.view.ty) (X2 : BufTy.Contents (Elt F) arg2.view.ty)
    (H : ∀ k, k0_chk1 (wordAt (F := F) i arg1 X1 k)) : ℕ → List (View.Piece (Elt F) S64x768 .f32)
  | 0 => []
  | k + 1 => if h : k < k0_t1_loop.trips then rowPiece i arg1 arg2 X1 X2 H ⟨k, h⟩ :: rowPieces i arg1 arg2 X1 X2 H k else rowPieces i arg1 arg2 X1 X2 H k

theorem rowPieces_succ (i : grid0.Coords) (arg1 : Memref sig .tc .smem S4x128 .i32) (arg2 : Memref sig .tc .vmem S1x576x768 .f32) (X1 : BufTy.Contents (Elt F) arg1.view.ty) (X2 : BufTy.Contents (Elt F) arg2.view.ty)
    (H : ∀ k, k0_chk1 (wordAt (F := F) i arg1 X1 k)) (k : Fin k0_t1_loop.trips) :
    rowPieces i arg1 arg2 X1 X2 H (k.val + 1) = [rowPiece i arg1 arg2 X1 X2 H k] ++ rowPieces i arg1 arg2 X1 X2 H k.val := by
  rw [rowPieces]; exact dif_pos k.isLt

/-- One trip. -/
theorem trip (c : Dev nD) (E : Set ℕ) (i : grid0.Coords) (arg1 : Memref sig .tc .smem S4x128 .i32) (harg1 : arg1.IsWhole) (arg2 : Memref sig .tc .vmem S1x576x768 .f32) (harg2 : arg2.IsWhole) (arg3 : Memref sig .tc .vmem S1x576x768 .f32) (harg3 : arg3.IsWhole) (arg4 : Memref sig .tc .vmem S768x768 .f32) (harg4 : arg4.IsWhole) (arg5 : Memref sig .tc .vmem S768x1536 .f32) (harg5 : arg5.IsWhole) (arg6 : Memref sig .tc .vmem S768x768 .f32) (harg6 : arg6.IsWhole) (arg7 : Memref sig .tc .vmem S768x768 .f32) (harg7 : arg7.IsWhole) (arg8 : Memref sig .tc .vmem S768x768 .f32) (harg8 : arg8.IsWhole) (arg9 : Memref sig .tc .vmem S1x576x768 .f32) (harg9 : arg9.IsWhole) (arg10 : Memref sig .tc .vmem S1x72x576 .f32) (harg10 : arg10.IsWhole) (arg11 : Memref sig .tc .vmem S1x72x1 .i32) (harg11 : arg11.IsWhole) (arg12 : Memref sig .tc .vmem S1x1x576 .f32) (harg12 : arg12.IsWhole) (arg13 : Memref sig .tc .vmem S1x1x768 .f32) (harg13 : arg13.IsWhole) (arg14 : Memref sig .tc .vmem S576x768 .bf16) (harg14 : arg14.IsWhole) (arg15 : Memref sig .tc .vmem S64x768 .f32) (harg15 : arg15.IsWhole) (arg0 : BitVec 32) (v277 : FVec F S576x768 .f32) (v324 : FVec F S576x768 .f32) (v328 : FVec F S576x768 .f32) (v329 : FVec F S576x768 .f32) (v352 : FVec F S576x768 .f32) (v354 : FVec F S576x768 .f32) (v358 : FVec F S576x768 .f32) (v385 : FVec F S576x768 .f32) (v407 : FVec F S576x768 .f32) (cst_113 : F .f32)
    (X1 : BufTy.Contents (Elt F) arg1.view.ty) (X2 : BufTy.Contents (Elt F) arg2.view.ty) (H : ∀ k, k0_chk1 (wordAt (F := F) i arg1 X1 k)) (k : Fin k0_t1_loop.trips) (f : BufTy.Contents (Elt F) arg15.view.ty) :
    Trip (F := F) c arg1 arg2 arg15 X1 X2 f
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v277 v324 v328 v329 v352 v354 v358 v385 v407 cst_113 k PUnit.unit)
          (fun _ => Trip (F := F) c arg1 arg2 arg15 X1 X2 (arg15.view.writes (Elt F) f [rowPiece i arg1 arg2 X1 X2 H k])) := by
  have hk : k.val < 64 := Nat.lt_of_lt_of_le k.isLt k0_t1_abs.2.1
  have hw := H k
  unfold k0_t1_body
  iintro ⟨HR1, HR2, HW⟩
  sl_exec
  sl_step
  isplitl [HR1]; · iexact HR1
  isplitl [HR2]; · iexact HR2
  iexact HW

set_option warn.classDefReducibility false in
/-- The loop by its invariant. -/
@[sl_loop] def loopInv_k0_t1 (c : Dev nD) (E : Set ℕ) (i : grid0.Coords) (arg1 : Memref sig .tc .smem S4x128 .i32) (harg1 : arg1.IsWhole) (arg2 : Memref sig .tc .vmem S1x576x768 .f32) (harg2 : arg2.IsWhole) (arg3 : Memref sig .tc .vmem S1x576x768 .f32) (harg3 : arg3.IsWhole) (arg4 : Memref sig .tc .vmem S768x768 .f32) (harg4 : arg4.IsWhole) (arg5 : Memref sig .tc .vmem S768x1536 .f32) (harg5 : arg5.IsWhole) (arg6 : Memref sig .tc .vmem S768x768 .f32) (harg6 : arg6.IsWhole) (arg7 : Memref sig .tc .vmem S768x768 .f32) (harg7 : arg7.IsWhole) (arg8 : Memref sig .tc .vmem S768x768 .f32) (harg8 : arg8.IsWhole) (arg9 : Memref sig .tc .vmem S1x576x768 .f32) (harg9 : arg9.IsWhole) (arg10 : Memref sig .tc .vmem S1x72x576 .f32) (harg10 : arg10.IsWhole) (arg11 : Memref sig .tc .vmem S1x72x1 .i32) (harg11 : arg11.IsWhole) (arg12 : Memref sig .tc .vmem S1x1x576 .f32) (harg12 : arg12.IsWhole) (arg13 : Memref sig .tc .vmem S1x1x768 .f32) (harg13 : arg13.IsWhole) (arg14 : Memref sig .tc .vmem S576x768 .bf16) (harg14 : arg14.IsWhole) (arg15 : Memref sig .tc .vmem S64x768 .f32) (harg15 : arg15.IsWhole) (arg0 : BitVec 32) (v277 : FVec F S576x768 .f32) (v324 : FVec F S576x768 .f32) (v328 : FVec F S576x768 .f32) (v329 : FVec F S576x768 .f32) (v352 : FVec F S576x768 .f32) (v354 : FVec F S576x768 .f32) (v358 : FVec F S576x768 .f32) (v385 : FVec F S576x768 .f32) (v407 : FVec F S576x768 .f32) (cst_113 : F .f32)
    (X1 : BufTy.Contents (Elt F) arg1.view.ty) (X2 : BufTy.Contents (Elt F) arg2.view.ty) (G : BufTy.Contents (Elt F) arg15.view.ty) (H : ∀ k, k0_chk1 (wordAt (F := F) i arg1 X1 k)) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v277 v324 v328 v329 v352 v354 v358 v385 v407 cst_113 where
  inv k _ := iprop((arg1.view.loc (c : Thread nD τ) ↦[arg1.view.set]{fullShare} X1) ∗ (arg2.view.loc (c : Thread nD τ) ↦[arg2.view.set]{fullShare} X2)
    ∗ (∃ f, (arg15.view.loc (c : Thread nD τ) ↦[arg15.view.set]{fullShare} f) ∗ ⌜f = arg15.view.writes (Elt F) G (rowPieces i arg1 arg2 X1 X2 H k)⌝))
  step k acc := by
    iintro ⟨HR1, HR2, ⟨%f, HW, %hf⟩⟩
    iapply (wp_wand_r Idealize.ShloMosaic.frame (wpE (defs₀ (F := F)) Variants.none (c : Thread nD τ) none) E)
    isplitl [HR1 HR2 HW]
    · iapply (trip (F := F) c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v277 v324 v328 v329 v352 v354 v358 v385 v407 cst_113 X1 X2 H k f)
      isplitl [HR1]; · iexact HR1
      isplitl [HR2]; · iexact HR2
      iexact HW
    · iintro %_ ⟨HR1, HR2, HW⟩
      isplitl [HR1]; · iexact HR1
      isplitl [HR2]; · iexact HR2
      rw [rowPieces_succ]
      iexists _; isplitl [HW]; · iexact HW
      ipureintro; rw [hf, ← View.writes_append]

/-- After the last trip the stores cover the scratch buffer: what it held at entry is not read. -/
theorem readAt_rows (i : grid0.Coords) (arg1 : Memref sig .tc .smem S4x128 .i32) (arg2 : Memref sig .tc .vmem S1x576x768 .f32) (arg15 : Memref sig .tc .vmem S64x768 .f32) (X1 : BufTy.Contents (Elt F) arg1.view.ty) (X2 : BufTy.Contents (Elt F) arg2.view.ty)
    (H : ∀ k, k0_chk1 (wordAt (F := F) i arg1 X1 k)) (f : BufTy.Contents (Elt F) arg15.view.ty) (B : LoadRect S64x768) :
    arg15.view.readAt (Elt F) B (arg15.view.writes (Elt F) f (rowPieces i arg1 arg2 X1 X2 H (Scf.trips k0_t1_loop.lb k0_t1_loop.ub k0_t1_loop.st)))
      = arg15.view.readCov (rowPieces i arg1 arg2 X1 X2 H (Scf.trips k0_t1_loop.lb k0_t1_loop.ub k0_t1_loop.st)) B :=
  View.readAt_writes_of_cover _ f _ B (fun j => View.cover_of_tiledL (rowPieces i arg1 arg2 X1 X2 H (Scf.trips k0_t1_loop.lb k0_t1_loop.ub k0_t1_loop.st)) S1x768.size (by sl_kernel_rfl) (B.idx j))

end Cert.KernelIdeal.Body

end
-- ==== Proof.BodyKernelIdeal.lean ====
/- The kernel's body at one grid point, run once on any whole staging buffers: what its stores leave in each output's
   buffer is found by the run, as a list of stores (the last first). The words that the counted loop reads enter as the
   hypothesis `H`: each names a row of the image. -/
module

public import proofs.«01_k».proof.Proof.LoopKernelIdeal
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of trip `k` at grid point `i`, of a block of words. -/
def word (i : grid0.Coords) (x0 : Vec F S4x128 .i32) (k : Fin k0_t1_loop.trips) : Elt F .i32 :=
  x0 ((Rect.unit (s := S4x128) (k0_off1 i k) S1x1.size (k0_off1_inb i k)).toLoadRect.idx (Shape.Idx.first (numel1_S1x1.symm ▸ Nat.one_pos)))

/-- Every word that the loop reads at grid point `i` names a row of the image. -/
def Words (i : grid0.Coords) (x0 : Vec F S4x128 .i32) : Prop := ∀ k, k0_chk1 (word (F := F) i x0 k)

theorem wordAt_unread (i : grid0.Coords) (arg1 : Memref sig .tc .smem S4x128 .i32) (harg1 : arg1.IsWhole) (x0 : Vec F S4x128 .i32) (k : Fin k0_t1_loop.trips) :
    wordAt i arg1 (harg1.unread x0) k = word i x0 k := by
  unfold word
  simp only [wordAt, View.readAt_apply, Memref.IsWhole.read_unread]

theorem words_at (i : grid0.Coords) (arg1 : Memref sig .tc .smem S4x128 .i32) (harg1 : arg1.IsWhole) (x0 : Vec F S4x128 .i32) (hx : Words (F := F) i x0) :
    ∀ k, k0_chk1 (wordAt i arg1 (harg1.unread x0) k) := fun k => by
  rw [wordAt_unread]; exact hx k

set_option backward.proofsInPublic true in
set_option maxHeartbeats 1000000 in
/-- The body's triple, with the stores that it leaves. -/
noncomputable def bodyRun (c : Dev nD) (i : grid0.Coords) (arg1 : Memref sig .tc .smem S4x128 .i32) (harg1 : arg1.IsWhole) (arg2 : Memref sig .tc .vmem S1x576x768 .f32) (harg2 : arg2.IsWhole) (arg3 : Memref sig .tc .vmem S1x576x768 .f32) (harg3 : arg3.IsWhole) (arg4 : Memref sig .tc .vmem S768x768 .f32) (harg4 : arg4.IsWhole) (arg5 : Memref sig .tc .vmem S768x1536 .f32) (harg5 : arg5.IsWhole) (arg6 : Memref sig .tc .vmem S768x768 .f32) (harg6 : arg6.IsWhole) (arg7 : Memref sig .tc .vmem S768x768 .f32) (harg7 : arg7.IsWhole) (arg8 : Memref sig .tc .vmem S768x768 .f32) (harg8 : arg8.IsWhole) (arg9 : Memref sig .tc .vmem S1x576x768 .f32) (harg9 : arg9.IsWhole) (arg10 : Memref sig .tc .vmem S1x72x576 .f32) (harg10 : arg10.IsWhole) (arg11 : Memref sig .tc .vmem S1x72x1 .i32) (harg11 : arg11.IsWhole) (arg12 : Memref sig .tc .vmem S1x1x576 .f32) (harg12 : arg12.IsWhole) (arg13 : Memref sig .tc .vmem S1x1x768 .f32) (harg13 : arg13.IsWhole) (arg14 : Memref sig .tc .vmem S576x768 .bf16) (harg14 : arg14.IsWhole) (arg15 : Memref sig .tc .vmem S64x768 .f32) (harg15 : arg15.IsWhole)
    (x0 : Vec F S4x128 .i32) (x1 : Vec F S1x576x768 .f32) (x2 : Vec F S1x576x768 .f32) (x3 : Vec F S768x768 .f32) (x4 : Vec F S768x1536 .f32) (x5 : Vec F S768x768 .f32) (x6 : Vec F S768x768 .f32) (x7 : Vec F S768x768 .f32) (H : ∀ k, k0_chk1 (wordAt i arg1 (harg1.unread x0) k)) :
    Σ' (L8 : List (View.Piece (Elt F) S1x576x768 .f32)), Σ' (L9 : List (View.Piece (Elt F) S1x72x576 .f32)), Σ' (L10 : List (View.Piece (Elt F) S1x72x1 .i32)), Σ' (L11 : List (View.Piece (Elt F) S1x1x576 .f32)), Σ' (L12 : List (View.Piece (Elt F) S1x1x768 .f32)), { LT0 : List (View.Piece (Elt F) S576x768 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LT0) ∗ (∃ d, owns (c : Thread nD τ) arg15 fullShare d)) -∗ K ⟨⟩))
          ⊢ wp frame (wpE (defs₀ (F := F)) Variants.none c none) E (cc0__score_block_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0__score_block_kernel_eq_skeleton]; unfold cc0__score_block_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    have hrd0 := fun f B => readAt_rows (F := F) i arg1 arg2 arg15 (harg1.unread x0) (harg2.unread x1) H f B
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexists _; iexact HS0
    iexists _, _; isplitr; swap; · iexact HS1
    ipureintro; rfl

end Cert.KernelIdeal.Body

end
-- ==== Proof.FrameKernelIdeal.lean ====
/- The frame of the program: the body's triple at every grid point, from the run of the body, and the launch.
   The words that the loop reads enter as the hypothesis `Hyps`: at every grid point each of them names a row. -/
module

public import proofs.«01_k».proof.Proof.BodyKernelIdeal
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's staging buffer at a point, and that it is whole. -/
abbrev ms0_0 (t : Fin cfg0.N) : Memref sig .tc .smem S4x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x576x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x576x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x576x768 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x72x576 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x72x1 .i32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x576 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x768 .f32 := win0_12.stage (cfg0.slots t 12)
abbrev hs0_12 (t : Fin cfg0.N) : (ms0_12 t).IsWhole := hstage0_12 ((cfg0.slots t 12).cast nbuf0_12)
/-- The scratch buffers. -/
abbrev scM0_0 : Memref sig .tc .vmem S576x768 .bf16 := Memref.whole cc0_scratch0
abbrev scM0_1 : Memref sig .tc .vmem S64x768 .f32 := Memref.whole cc0_scratch1

/-- The invariant with the two scratch buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Every word that the loop reads, at every grid point, names a row of the image. -/
def Hyps : Prop := ∀ (c : Dev nD) (t : Fin cfg0.N), Words (F := F) (grid0.coords t) (iblk m c 0 t)

variable (hH : Hyps m)

/-- The body's run at point `t`: on the point's staging buffers, at the input blocks. -/
abbrev ptRun (c : Dev nD) (t : Fin cfg0.N) :=
  bodyRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (words_at (grid0.coords t) (ms0_0 t) (hs0_0 t) (iblk m c 0 t) (hH c t))

/-! The stores into each output cover its block (one store of the whole block). -/
theorem cover_8 (c : Dev nD) (t : Fin cfg0.N) (y : S1x576x768.Idx) : ∃ pc ∈ (ptRun m hH c t).1, y ∈ pc.1.set :=
  View.cover_of_tiledL (ptRun m hH c t).1 S1x576x768.size (by sl_kernel_rfl) y
theorem cover_9 (c : Dev nD) (t : Fin cfg0.N) (y : S1x72x576.Idx) : ∃ pc ∈ (ptRun m hH c t).2.1, y ∈ pc.1.set :=
  View.cover_of_tiledL (ptRun m hH c t).2.1 S1x72x576.size (by sl_kernel_rfl) y
theorem cover_10 (c : Dev nD) (t : Fin cfg0.N) (y : S1x72x1.Idx) : ∃ pc ∈ (ptRun m hH c t).2.2.1, y ∈ pc.1.set :=
  View.cover_of_tiledL (ptRun m hH c t).2.2.1 S1x72x1.size (by sl_kernel_rfl) y
theorem cover_11 (c : Dev nD) (t : Fin cfg0.N) (y : S1x1x576.Idx) : ∃ pc ∈ (ptRun m hH c t).2.2.2.1, y ∈ pc.1.set :=
  View.cover_of_tiledL (ptRun m hH c t).2.2.2.1 S1x1x576.size (by sl_kernel_rfl) y
theorem cover_12 (c : Dev nD) (t : Fin cfg0.N) (y : S1x1x768.Idx) : ∃ pc ∈ (ptRun m hH c t).2.2.2.2.1, y ∈ pc.1.set :=
  View.cover_of_tiledL (ptRun m hH c t).2.2.2.2.1 S1x1x768.size (by sl_kernel_rfl) y

/-- What the body leaves in output 8's block at point `t`. -/
def out_8 (c : Dev nD) (t : Fin cfg0.N) : Vec F S1x576x768 .f32 := View.canon (Val := Elt F) (ptRun m hH c t).1
/-- What the body leaves in output 9's block at point `t`. -/
def out_9 (c : Dev nD) (t : Fin cfg0.N) : Vec F S1x72x576 .f32 := View.canon (Val := Elt F) (ptRun m hH c t).2.1
/-- What the body leaves in output 10's block at point `t`. -/
def out_10 (c : Dev nD) (t : Fin cfg0.N) : Vec F S1x72x1 .i32 := View.canon (Val := Elt F) (ptRun m hH c t).2.2.1
/-- What the body leaves in output 11's block at point `t`. -/
def out_11 (c : Dev nD) (t : Fin cfg0.N) : Vec F S1x1x576 .f32 := View.canon (Val := Elt F) (ptRun m hH c t).2.2.2.1
/-- What the body leaves in output 12's block at point `t`. -/
def out_12 (c : Dev nD) (t : Fin cfg0.N) : Vec F S1x1x768 .f32 := View.canon (Val := Elt F) (ptRun m hH c t).2.2.2.2.1

/-! ## The pipeline's proof data -/

/-- The proof data: the arrays as the region finds them; after the body each input's buffer at its block and each output's
    at what the run leaves; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out_8 m hH c t
    | ⟨9, _⟩ => out_9 m hH c t
    | ⟨10, _⟩ => out_10 m hH c t
    | ⟨11, _⟩ => out_11 m hH c t
    | ⟨12, _⟩ => out_12 m hH c t
  Φ _ := Pipeline.ΦA spec0 c
  q _ := fullShare
  owed _ := 0

/-- The arrays are as the region finds them. -/
theorem A_eq (c : Dev nD) (w : Fin cfg0.W) : (dats m hH 0 c).A w = V m c (Pipeline.arrRef spec0 w) := by
  dsimp only [dats]

/-- What the body leaves, window by window. -/
theorem after0_0 (c : Dev nD) (t : Fin cfg0.N) : (dats m hH 0 c).after 0 t = iblk m c 0 t := by dsimp only [dats]
theorem after0_1 (c : Dev nD) (t : Fin cfg0.N) : (dats m hH 0 c).after 1 t = iblk m c 1 t := by dsimp only [dats]
theorem after0_2 (c : Dev nD) (t : Fin cfg0.N) : (dats m hH 0 c).after 2 t = iblk m c 2 t := by dsimp only [dats]
theorem after0_3 (c : Dev nD) (t : Fin cfg0.N) : (dats m hH 0 c).after 3 t = iblk m c 3 t := by dsimp only [dats]
theorem after0_4 (c : Dev nD) (t : Fin cfg0.N) : (dats m hH 0 c).after 4 t = iblk m c 4 t := by dsimp only [dats]
theorem after0_5 (c : Dev nD) (t : Fin cfg0.N) : (dats m hH 0 c).after 5 t = iblk m c 5 t := by dsimp only [dats]
theorem after0_6 (c : Dev nD) (t : Fin cfg0.N) : (dats m hH 0 c).after 6 t = iblk m c 6 t := by dsimp only [dats]
theorem after0_7 (c : Dev nD) (t : Fin cfg0.N) : (dats m hH 0 c).after 7 t = iblk m c 7 t := by dsimp only [dats]
theorem after0_8 (c : Dev nD) (t : Fin cfg0.N) : (dats m hH 0 c).after 8 t = out_8 m hH c t := by dsimp only [dats]
theorem after0_9 (c : Dev nD) (t : Fin cfg0.N) : (dats m hH 0 c).after 9 t = out_9 m hH c t := by dsimp only [dats]
theorem after0_10 (c : Dev nD) (t : Fin cfg0.N) : (dats m hH 0 c).after 10 t = out_10 m hH c t := by dsimp only [dats]
theorem after0_11 (c : Dev nD) (t : Fin cfg0.N) : (dats m hH 0 c).after 11 t = out_11 m hH c t := by dsimp only [dats]
theorem after0_12 (c : Dev nD) (t : Fin cfg0.N) : (dats m hH 0 c).after 12 t = out_12 m hH c t := by dsimp only [dats]

/-- Each input's staging buffer holds its block at every point. -/
theorem before0_0 (c : Dev nD) (t : Fin cfg0.N) (d) : (dats m hH 0 c).before 0 t d = iblk m c 0 t :=
  before0_0_of m (dats m hH 0 c) (A_eq m hH c 0) (after0_0 m hH c) t d
theorem before0_1 (c : Dev nD) (t : Fin cfg0.N) (d) : (dats m hH 0 c).before 1 t d = iblk m c 1 t :=
  before0_1_of m (dats m hH 0 c) (A_eq m hH c 1) (after0_1 m hH c) t d
theorem before0_2 (c : Dev nD) (t : Fin cfg0.N) (d) : (dats m hH 0 c).before 2 t d = iblk m c 2 t :=
  before0_2_of m (dats m hH 0 c) (A_eq m hH c 2) (after0_2 m hH c) t d
theorem before0_3 (c : Dev nD) (t : Fin cfg0.N) (d) : (dats m hH 0 c).before 3 t d = iblk m c 3 t :=
  before0_3_of m (dats m hH 0 c) (A_eq m hH c 3) (after0_3 m hH c) t d
theorem before0_4 (c : Dev nD) (t : Fin cfg0.N) (d) : (dats m hH 0 c).before 4 t d = iblk m c 4 t :=
  before0_4_of m (dats m hH 0 c) (A_eq m hH c 4) (after0_4 m hH c) t d
theorem before0_5 (c : Dev nD) (t : Fin cfg0.N) (d) : (dats m hH 0 c).before 5 t d = iblk m c 5 t :=
  before0_5_of m (dats m hH 0 c) (A_eq m hH c 5) (after0_5 m hH c) t d
theorem before0_6 (c : Dev nD) (t : Fin cfg0.N) (d) : (dats m hH 0 c).before 6 t d = iblk m c 6 t :=
  before0_6_of m (dats m hH 0 c) (A_eq m hH c 6) (after0_6 m hH c) t d
theorem before0_7 (c : Dev nD) (t : Fin cfg0.N) (d) : (dats m hH 0 c).before 7 t d = iblk m c 7 t :=
  before0_7_of m (dats m hH 0 c) (A_eq m hH c 7) (after0_7 m hH c) t d

/-! ## The body obligation, at a generic point -/

/-- What the body is called with at point `t`, -/
def bodyPre (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare ((dats m hH 0 c).before 9 t d))
    ∗ (∃ d, owns (c : Thread nD τ) (ms0_10 t) fullShare ((dats m hH 0 c).before 10 t d))
    ∗ (∃ d, owns (c : Thread nD τ) (ms0_11 t) fullShare ((dats m hH 0 c).before 11 t d))
    ∗ (∃ d, owns (c : Thread nD τ) (ms0_12 t) fullShare ((dats m hH 0 c).before 12 t d)))

/-- and what it returns. -/
def bodyPost (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ owns (c : Thread nD τ) (ms0_6 t) fullShare ((dats m hH 0 c).after 6 t)
    ∗ owns (c : Thread nD τ) (ms0_7 t) fullShare ((dats m hH 0 c).after 7 t)
    ∗ owns (c : Thread nD τ) (ms0_8 t) fullShare ((dats m hH 0 c).after 8 t)
    ∗ owns (c : Thread nD τ) (ms0_9 t) fullShare ((dats m hH 0 c).after 9 t)
    ∗ owns (c : Thread nD τ) (ms0_10 t) fullShare ((dats m hH 0 c).after 10 t)
    ∗ owns (c : Thread nD τ) (ms0_11 t) fullShare ((dats m hH 0 c).after 11 t)
    ∗ owns (c : Thread nD τ) (ms0_12 t) fullShare ((dats m hH 0 c).after 12 t))

set_option maxHeartbeats 1200000 in
/-- The body at any point, by its run. -/
theorem sound_body (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9, after0_10, after0_11, after0_12]
  rw [show (dats m hH 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((ptRun m hH c t).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, ⟨%e8, H8⟩, ⟨%e9, H9⟩, ⟨%e10, H10⟩, ⟨%e11, H11⟩, ⟨%e12, H12⟩, ⟨%fT0, HS0⟩, HS1⟩
  isplitl [HS0 HS1 Hg]
  · isplitl [HS0 HS1]
    · isplitl [HS0]
      · iexists _; unfold owns; iexists _; isplitr
        swap; · iexact HS0
        ipureintro; rfl
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (cover_8 m hH c t)
  isplitl [H9]
  · unfold owns; iexists _; isplitr
    swap; · iexact H9
    ipureintro; exact View.read_writes_eq_canon _ _ _ (cover_9 m hH c t)
  isplitl [H10]
  · unfold owns; iexists _; isplitr
    swap; · iexact H10
    ipureintro; exact View.read_writes_eq_canon _ _ _ (cover_10 m hH c t)
  isplitl [H11]
  · unfold owns; iexists _; isplitr
    swap; · iexact H11
    ipureintro; exact View.read_writes_eq_canon _ _ _ (cover_11 m hH c t)
  unfold owns; iexists _; isplitr
  swap; · iexact H12
  ipureintro; exact View.read_writes_eq_canon _ _ _ (cover_12 m hH c t)

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-! ## The run and the frame -/

set_option backward.isDefEq.respectTransparency.types false in
set_option maxHeartbeats 800000 in
/-- The launch: the arrays as the proof data computes them, and every semaphore counter at zero. -/
theorem run_main_quiescent : θ_run defs (onTc (τ := τ) (main (F := F))) (s₀ m ρ) (fun r => (Pipeline.FramePost cfgs (dats m hH) 0 (Pipeline.afterTail₀ cfgs (dats m hH) 0 (V0 m) [hostOps1])) r ∧ r.2.sem = fun _ => 0) :=
  Pipeline.θ_run_frame_around (Q' := _) cfgs (dats m hH) (0 : Fin 1) launch0 defs₀ Variants.none m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hH) (hΦ := fun _ _ => rfl)

/-- The launch without the counters. -/
theorem run_main : θ_run defs (onTc (τ := τ) (main (F := F))) (s₀ m ρ) (Pipeline.FramePost cfgs (dats m hH) 0 (Pipeline.afterTail₀ cfgs (dats m hH) 0 (V0 m) [hostOps1])) :=
  (θ_run defs _ _).mono (fun _ h => h.1) (run_main_quiescent m ρ hH)

include hH in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m hH) (A_eq m hH) (run_main m ρ hH)

include hH in
/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ hH) ((θ_run defs _ _).mono (fun _ h => h.2) (run_main_quiescent m ρ hH))

end Cert.KernelIdeal.Body

end
-- ==== Proof.WordsKernelIdeal.lean ====
/- The words that the loop reads name rows of the image, from the range of the word array's first 64 columns. -/
module

public import proofs.«01_k».proof.Proof.FrameKernelIdeal
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The block of words at a grid point is the whole array of words. -/
theorem ids_block (c : Dev nD) (t : Fin cfg0.N) (y : S4x128.Idx) :
    iblk m c 0 t y = m ((c : Thread nD τ).loc main_arg2) y := by
  rw [← V_main_arg2 m c]
  unfold iblk
  rw [View.read_apply, cast_eq]
  refine congrArg (V m c main_arg2) (funext fun a => Fin.ext ?_)
  exact Pipeline.Window.rect_emb_val_of_index_zero win0_0 t a (by fin_cases a <;> rfl) y

/-- The first 64 words of each row name rows of the image: so does every word that the loop reads. -/
theorem hyps_of (h : ∀ (c : Dev nD) (y : S4x128.Idx), (y 1).val < 64 →
    (m ((c : Thread nD τ).loc main_arg2) y : BitVec 32).toNat < 576) : Hyps m := by
  intro c t k
  unfold word
  rw [ids_block]
  have hk : k.val < 64 := Nat.lt_of_lt_of_le k.isLt k0_t1_abs.2.1
  have hi : ∀ a, ((Rect.unit (s := S4x128) (k0_off1 (grid0.coords t) k) S1x1.size (k0_off1_inb (grid0.coords t) k)).toLoadRect.idx
      (Shape.Idx.first (numel1_S1x1.symm ▸ Nat.one_pos)) a).val = k0_off1 (grid0.coords t) k a := fun a => by
    fin_cases a <;> rfl
  have hv := h c _ (show ((Rect.unit (s := S4x128) (k0_off1 (grid0.coords t) k) S1x1.size (k0_off1_inb (grid0.coords t) k)).toLoadRect.idx
      (Shape.Idx.first (numel1_S1x1.symm ▸ Nat.one_pos)) 1).val < 64 by rw [hi, k0_off1_eq]; exact hk)
  intro a
  fin_cases a
  · exact Nat.le_refl 1
  · exact hv
  · exact Nat.le_refl 768

end Cert.KernelIdeal.Body

end
-- ==== Proof.Range.lean ====
/- The first precondition, read: the range of the words that name rows. -/
module

public import proofs.«01_k».proof.Defs
public import proofs.«01_k».proof.Proof.Gen.Pre_ids_in_range
public import proofs.«01_k».proof.Proof.WordsKernel
public import proofs.«01_k».proof.Proof.WordsKernelIdeal
public import Idealize.ShloMosaic.Lib.Pointwise

@[expose] public section

set_option maxRecDepth 16384

noncomputable section

namespace Cert.Range

open Idealize.ShloMosaic Idealize.ShloMosaic.TcCoe Idealize.SL.Sem

/-- A bit that a condition states is one where the condition holds. -/
theorem ofBool_one (b : Bool) : BitVec.ofBool b = 1#1 ↔ b = true := by cases b <;> decide

/-- A conjunction of two bits is one when both are. -/
theorem and_one (a b : BitVec 1) : IntOp.andi a b = 1#1 ↔ a = 1#1 ∧ b = 1#1 := by revert a b; decide

/-- A word that is at least `0` and below `576` as a signed number is below `576` as an unsigned one. -/
theorem word_range (w : BitVec 32) (h0 : IntOp.cmpi .sge w 0#32 = 1#1) (h1 : IntOp.cmpi .slt w 576#32 = 1#1) : w.toNat < 576 := by
  simp only [IntOp.cmpi, ofBool_one] at h0 h1
  simp only [BitVec.sle, BitVec.slt, decide_eq_true_eq, BitVec.toInt, BitVec.toNat_ofNat] at h0 h1
  omega

/-- A column below `64` of the words' array is an element of its slice. -/
def colIdx (y : (⟨2, ![4, 128]⟩ : Shape).Idx) (hy : (y 1).val < 64) : (⟨2, ![4, 64]⟩ : Shape).Idx :=
  fun a => match a with | ⟨0, _⟩ => y 0 | ⟨1, _⟩ => ⟨(y 1).val, hy⟩

/-- The first 64 words, read at an index. -/
theorem slice_at (x : IVec ⟨2, ![4, 128]⟩ 32) (h : (⟨2, ![4, 128]⟩ : Shape).Slices ![0, 0] ⟨2, ![4, 64]⟩) (y : (⟨2, ![4, 128]⟩ : Shape).Idx) (hy : (y 1).val < 64) :
    extractStridedSlice ⟨2, ![4, 64]⟩ ![0, 0] x h (colIdx y hy) = x y := by
  refine congrArg x (funext fun a => Fin.ext ?_)
  fin_cases a <;> simp [colIdx]

/-- The range that the first precondition states. -/
theorem range_of_fn {F : FTy → Type} [FloatOps F] (a0 a1 a2 a3 a4 a5 a6 a7 a8 a9 a10 a11 a12 a13 a14 a15 a16)
    (e : Cert.Pre_ids_in_range.fn (F := F) a0 a1 a2 a3 a4 a5 a6 a7 a8 a9 a10 a11 a12 a13 a14 a15 a16 = fun _ => 1#1)
    (y : Cert.Pre_ids_in_range.S4x128.Idx) (hy : (y 1).val < 64) : (a2 y : BitVec 32).toNat < 576 := by
  have e := congrFun e (colIdx y hy)
  simp only [Cert.Pre_ids_in_range.fn, andi, cmpi, and_one] at e
  obtain ⟨h0, h1⟩ := e
  rw [slice_at] at h0 h1
  exact word_range _ h0 h1

/-- The kernel's words that name base tokens are in range. -/
theorem kernel_range (m : (ℓ : Loc Cert.Kernel.nD Cert.Kernel.τ Cert.Kernel.sig) → Buf (Elt Bits) ℓ) (h : Cert.Pre_Kernel m)
    (c : Dev Cert.Kernel.nD) (y : Cert.Kernel.S4x128.Idx) (hy : (y 1).val < 64) :
    (m ((c : Thread Cert.Kernel.nD Cert.Kernel.τ).loc Cert.Kernel.main_arg2) y : BitVec 32).toNat < 576 :=
  range_of_fn _ _ _ _ _ _ _ _ _ _ _ _ _ _ _ _ _ (h c) y hy

/-- The same of the ideal program's. -/
theorem ideal_range (m : (ℓ : Loc Cert.KernelIdeal.nD Cert.KernelIdeal.τ Cert.KernelIdeal.sig) → Buf (Elt Ideal) ℓ) (h : Cert.Pre_KernelIdeal m)
    (c : Dev Cert.KernelIdeal.nD) (y : Cert.KernelIdeal.S4x128.Idx) (hy : (y 1).val < 64) :
    (m ((c : Thread Cert.KernelIdeal.nD Cert.KernelIdeal.τ).loc Cert.KernelIdeal.main_arg2) y : BitVec 32).toNat < 576 :=
  range_of_fn _ _ _ _ _ _ _ _ _ _ _ _ _ _ _ _ _ (h c) y hy

end Cert.Range

end
-- ==== Proof.Pre.lean ====
/- The second precondition, read: the words' range, and the weights and biases of the set-up. -/
module

public import proofs.«01_k».proof.Defs
public import proofs.«01_k».proof.Proof.Gen.Pre_ids_in_range
public import proofs.«01_k».proof.Proof.Gen.Pre_as_set_up
public import proofs.«01_k».proof.Proof.WordsKernel
public import proofs.«01_k».proof.Proof.WordsKernelIdeal
public import proofs.«01_k».proof.Proof.Range
public import Idealize.ShloMosaic.Lib.Pointwise

@[expose] public section

set_option maxRecDepth 16384

noncomputable section

namespace Cert.Pre

open Cert.Range Idealize.ShloMosaic Idealize.ShloMosaic.TcCoe Idealize.SL.Sem

/-- The range that the second precondition states. -/
theorem range_of_set_up {F : FTy → Type} [FloatOps F] (a0 a1 a2 a3 a4 a5 a6 a7 a8 a9 a10 a11 a12 a13 a14 a15 a16)
    (e : Cert.Pre_as_set_up.fn (F := F) a0 a1 a2 a3 a4 a5 a6 a7 a8 a9 a10 a11 a12 a13 a14 a15 a16 = fun _ => 1#1)
    (y : Cert.Pre_as_set_up.S4x128.Idx) (hy : (y 1).val < 64) : (a2 y : BitVec 32).toNat < 576 := by
  obtain ⟨b, k, rfl⟩ : ∃ (b : Fin 4) (k : Fin 128), y = ix2 b k := ⟨y 0, y 1, eq_ix2 y⟩
  have hk : k.val < 64 := hy
  have e := congrFun e (ix3 (b : Fin 4) (⟨k.val, hk⟩ : Fin 64) (0 : Fin 768))
  simp only [Cert.Pre_as_set_up.fn, Cert.Pre_as_set_up.fn_part1, Cert.Pre_as_set_up.fn_part2, andi, and_one] at e
  have e := e.1
  pointwise at e
  simp only [and_one] at e
  exact word_range _ e.1 e.2

/-- The weights and the biases that the second precondition states. -/
theorem weights_of_set_up (a0 a1 a2 a3 a4 a5 a6 a7 a8 a9 a10 a11 a12 a13 a14 a15 a16)
    (e : Cert.Pre_as_set_up.fn (F := Ideal) a0 a1 a2 a3 a4 a5 a6 a7 a8 a9 a10 a11 a12 a13 a14 a15 a16 = fun _ => 1#1) :
    (a3 = fun _ => (1 : EReal)) ∧ (a4 = fun _ => (0 : EReal)) ∧ (a5 = fun _ => (1 : EReal)) ∧ (a6 = fun _ => (0 : EReal))
    ∧ (a7 = fun _ => (1 : EReal)) ∧ (a8 = fun _ => (0 : EReal)) ∧ (a12 = fun _ => (0 : EReal)) ∧ (a14 = fun _ => (0 : EReal)) ∧ (a16 = fun _ => (0 : EReal)) := by
  have key : ∀ j : Cert.Pre_as_set_up.S768.Idx, a3 j = (1 : EReal) ∧ a4 j = (0 : EReal) ∧ a5 j = (1 : EReal) ∧ a6 j = (0 : EReal)
      ∧ a7 j = (1 : EReal) ∧ a8 j = (0 : EReal) ∧ a12 j = (0 : EReal) ∧ a14 j = (0 : EReal) ∧ a16 j = (0 : EReal) := by
    intro j
    obtain ⟨j, rfl⟩ : ∃ k : Fin 768, j = ix1 k := ⟨j 0, eq_ix1 j⟩
    have e := congrFun e (ix3 (0 : Fin 4) (0 : Fin 64) (j : Fin 768))
    simp only [Cert.Pre_as_set_up.fn, Cert.Pre_as_set_up.fn_part1, Cert.Pre_as_set_up.fn_part2, andi, and_one] at e
    have e := e.2
    pointwise at e
    simpa only [and_one, ofBool_one, decide_eq_true_eq, and_assoc] using e
  exact ⟨funext fun j => (key j).1, funext fun j => (key j).2.1, funext fun j => (key j).2.2.1, funext fun j => (key j).2.2.2.1,
    funext fun j => (key j).2.2.2.2.1, funext fun j => (key j).2.2.2.2.2.1, funext fun j => (key j).2.2.2.2.2.2.1,
    funext fun j => (key j).2.2.2.2.2.2.2.1, funext fun j => (key j).2.2.2.2.2.2.2.2⟩

/-- Under the second precondition the kernel's words that name base tokens are in range. -/
theorem set_up_range (m : (ℓ : Loc Cert.KernelIdeal.nD Cert.KernelIdeal.τ Cert.KernelIdeal.sig) → Buf (Elt Ideal) ℓ) (h : Cert.Pre_KernelIdeal_as_set_up m)
    (c : Dev Cert.KernelIdeal.nD) (y : Cert.KernelIdeal.S4x128.Idx) (hy : (y 1).val < 64) :
    (m ((c : Thread Cert.KernelIdeal.nD Cert.KernelIdeal.τ).loc Cert.KernelIdeal.main_arg2) y : BitVec 32).toNat < 576 :=
  range_of_set_up _ _ _ _ _ _ _ _ _ _ _ _ _ _ _ _ _ (h c) y hy

end Cert.Pre

end
-- ==== Proof.Spec.lean ====
/- The mathematics of the block over the extended reals, for one image: normalised rows, attention, the two-layer gelu
   network, the mean of the named base tokens, and the score of a token by its angle to that mean. A constant is the rational
   that its float word is. -/
module

public import Idealize.ShloMosaic.Lib.Pointwise

@[expose] public section

set_option maxRecDepth 16384

noncomputable section

namespace Cert.Spec

open Idealize.ShloMosaic

/-- The mean of a row of `768`. -/
def mean (f : Fin 768 → EReal) : EReal := Ideal.div (∑ c, f c) (Ideal.ofBits .f32 0x44400000#32)

/-- A row less its mean, over the root of its variance. -/
def ln (f : Fin 768 → EReal) (c : Fin 768) : EReal :=
  Ideal.div (f c - mean f)
    (Ideal.sqrt (Ideal.div (∑ c, (f c - mean f) * (f c - mean f)) (Ideal.ofBits .f32 0x44400000#32)
      + Ideal.ofBits .f32 0x3727C5AC#32))

/-- Rows times the transpose of a weight. -/
def proj {N J : ℕ} (X : Fin N → Fin 768 → EReal) (W : Fin J → Fin 768 → EReal) (n : Fin N) (j : Fin J) : EReal :=
  ∑ c, X n c * W j c

/-- Lane `d` of head `h`. -/
def lane (h : Fin 8) (d : Fin 96) : Fin 768 := ⟨h.val * 96 + d.val, by omega⟩

/-- Lane `d` of head `h` among the keys. -/
def keyLane (h : Fin 8) (d : Fin 96) : Fin 1536 := ⟨h.val * 96 + d.val, by omega⟩

/-- Lane `c` among the values. -/
def valLane (c : Fin 768) : Fin 1536 := ⟨768 + c.val, by omega⟩

/-- The scaled product of a query with a key. -/
def score (q : Fin 576 → Fin 768 → EReal) (kv : Fin 576 → Fin 1536 → EReal) (h : Fin 8) (n m : Fin 576) : EReal :=
  (∑ d : Fin 96, q n (lane h d) * kv m (keyLane h d)) * Ideal.ofBits .f32 0x3DD105EC#32

/-- The weights that a row of scores gives: its exponentials, shifted by its maximum, over their sum. -/
def soft (f : Fin 576 → EReal) (m : Fin 576) : EReal :=
  Ideal.div (Ideal.exp (f m - Finset.univ.fold max (Ideal.ofBits .f32 0xFF800000#32) f))
    (∑ m, Ideal.exp (f m - Finset.univ.fold max (Ideal.ofBits .f32 0xFF800000#32) f))

/-- The attention's result at a lane of a head. -/
def head (q : Fin 576 → Fin 768 → EReal) (kv : Fin 576 → Fin 1536 → EReal) (h : Fin 8) (n : Fin 576) (d : Fin 96) : EReal :=
  ∑ m, soft (score q kv h n) m * kv m (valLane (lane h d))

/-- The heads side by side. -/
def heads (q : Fin 576 → Fin 768 → EReal) (kv : Fin 576 → Fin 1536 → EReal) (n : Fin 576) (c : Fin 768) : EReal :=
  head q kv ⟨c.val / 96, by omega⟩ n ⟨c.val % 96, by omega⟩

/-- The tokens after the attention. -/
def mid (X Y : Fin 576 → Fin 768 → EReal) (Wq : Fin 768 → Fin 768 → EReal) (Wkv : Fin 1536 → Fin 768 → EReal)
    (Wp : Fin 768 → Fin 768 → EReal) (n : Fin 576) (j : Fin 768) : EReal :=
  X n j + proj (heads (proj (fun n => ln (X n)) Wq) (proj (fun n => ln (Y n)) Wkv)) Wp n j

/-- The polynomial of the small arguments of `erfc`, in the square. -/
def polySmall (y : EReal) : EReal :=
  (((((Ideal.ofBits .f32 0x38A4B519#32 * y + Ideal.ofBits .f32 0xBA51FB80#32) * y + Ideal.ofBits .f32 0x3BAA02D9#32) * y
    + Ideal.ofBits .f32 0xBCDBFC87#32) * y + Ideal.ofBits .f32 0x3DE7167C#32) * y + Ideal.ofBits .f32 0xBEC0939F#32) * y
    + Ideal.ofBits .f32 0x3F906EBA#32

/-- The polynomial of the arguments below `2`, in the reciprocal of the square. -/
def polyNear (y : EReal) : EReal :=
  (((((((Ideal.ofBits .f32 0x3CBE9CF4#32 * y + Ideal.ofBits .f32 0xBE0E0868#32) * y + Ideal.ofBits .f32 0x3EBCCBD0#32) * y
    + Ideal.ofBits .f32 0xBF151CF8#32) * y + Ideal.ofBits .f32 0x3F1EF9E3#32) * y + Ideal.ofBits .f32 0xBEFD28C0#32) * y
    + Ideal.ofBits .f32 0x3EAE5471#32) * y + Ideal.ofBits .f32 0xBE8C5880#32) * y + Ideal.ofBits .f32 0x3F1056E6#32

/-- The polynomial of the arguments from `2` on, in the reciprocal of the square. -/
def polyFar (y : EReal) : EReal :=
  ((((((Ideal.ofBits .f32 0xC127A483#32 * y + Ideal.ofBits .f32 0x414FA29C#32) * y + Ideal.ofBits .f32 0xC0EFDB4A#32) * y
    + Ideal.ofBits .f32 0x403AF1FA#32) * y + Ideal.ofBits .f32 0xBF81F436#32) * y + Ideal.ofBits .f32 0x3ED7FC3E#32) * y
    + Ideal.ofBits .f32 0xBE906C5D#32) * y + Ideal.ofBits .f32 0x3F106EB9#32

/-- The expansion of `erfc` from `1` on, before the reflection. -/
def tail (z : EReal) : EReal :=
  if -(z * z) < Ideal.ofBits .f32 0xC2B17218#32 then 0
  else Ideal.div (Ideal.exp (-(z * z))) (max z (-z))
    * if max z (-z) < Ideal.ofBits .f32 0x40000000#32 then polyNear (Ideal.div 1 (z * z)) else polyFar (Ideal.div 1 (z * z))

/-- The f32 expansion of `erfc`. -/
def erfc (z : EReal) : EReal :=
  if max z (-z) < 1 then 1 - z * polySmall (z * z)
  else if z < 0 then Ideal.ofBits .f32 0x40000000#32 - tail z else tail z

/-- The gelu. -/
def gelu (x : EReal) : EReal :=
  Ideal.ofBits .f32 0x3F000000#32 * x * erfc (-x * Ideal.ofBits .f32 0x3F3504F3#32)

/-- The tokens after the network. -/
def tokens (X Y : Fin 576 → Fin 768 → EReal) (Wq : Fin 768 → Fin 768 → EReal) (Wkv : Fin 1536 → Fin 768 → EReal)
    (Wp W1 W2 : Fin 768 → Fin 768 → EReal) (n : Fin 576) (j : Fin 768) : EReal :=
  mid X Y Wq Wkv Wp n j
    + proj (fun n c => gelu (proj (fun n => ln (mid X Y Wq Wkv Wp n)) W1 n c)) W2 n j

/-- The mean of the named base tokens. -/
def kern (Y : Fin 576 → Fin 768 → EReal) (id : Fin 64 → Fin 576) (c : Fin 768) : EReal :=
  Ideal.div (∑ m, Y (id m) c) (Ideal.ofBits .f32 0x42800000#32)

/-- The length of a row, at least `1e-8`. -/
def norm (f : Fin 768 → EReal) : EReal := max (Ideal.sqrt (∑ c, f c * f c)) (Ideal.ofBits .f32 0x322BCC77#32)

/-- The cosine of two rows' angle, taken from `[-1, 1]` to `[0, 1]`. -/
def pos (f k : Fin 768 → EReal) : EReal :=
  Ideal.div (Ideal.div (∑ c, f c * k c) (norm f * norm k) + 1) (Ideal.ofBits .f32 0x40000000#32)

/-- How many scores come before score `j`: the larger ones, and the equal ones of smaller index. -/
def rank (p : Fin 576 → EReal) (j : Fin 576) : ℕ :=
  (Finset.univ.filter fun i : Fin 576 => p j < p i ∨ (p i = p j ∧ i < j)).card

/-- A sum over `768` lanes, six tiles at once. -/
theorem sum_tiles (f : Fin 768 → EReal) :
    (∑ x : Fin 128, (f ⟨x.val, by omega⟩ + f ⟨128 + x.val, by omega⟩ + f ⟨256 + x.val, by omega⟩ + f ⟨384 + x.val, by omega⟩
      + f ⟨512 + x.val, by omega⟩ + f ⟨640 + x.val, by omega⟩)) = ∑ c, f c := by
  have h := Fin.sum_univ_tiles 6 128 rfl f
  rw [h]
  simp only [Fin.sum_univ_six, Finset.sum_add_distrib]
  refine congrArg₂ (· + ·) (congrArg₂ (· + ·) (congrArg₂ (· + ·) (congrArg₂ (· + ·) (congrArg₂ (· + ·) ?_ ?_) ?_) ?_) ?_) ?_ <;>
    exact Finset.sum_congr rfl fun x _ => congrArg f (Fin.ext (by simp))

end Cert.Spec

end
-- ==== Proof.Rank.lean ====
/- The order of the scores: `Spec.rank` counts the tokens whose score comes before a token's; here it is read off the sort, off sums of ones and off sums of words. -/
module

public import proofs.«01_k».proof.Proof.Spec
public import Idealize.ShloMosaic.Lib.SortFacts
public import Idealize.ShloMosaic.Lib.PlanTiles.StableSort

@[expose] public section

open Idealize.ShloMosaic

namespace Cert.Spec

/-- Token `i` comes before token `j`: by its score, then by its place. -/
def Before (p : Fin 576 → EReal) (i j : Fin 576) : Prop := p j < p i ∨ (p i = p j ∧ i < j)

/-- The order is transitive. -/
theorem before_trans {p : Fin 576 → EReal} {i j k : Fin 576} (h : Before p i j) (h' : Before p j k) : Before p i k := by
  rcases h with h | ⟨h, hi⟩ <;> rcases h' with h' | ⟨h', hi'⟩
  · exact Or.inl (h'.trans h)
  · exact Or.inl (h' ▸ h)
  · exact Or.inl (h ▸ h')
  · exact Or.inr ⟨h.trans h', hi.trans hi'⟩

/-- Nothing comes before itself. -/
theorem before_irrefl {p : Fin 576 → EReal} {i : Fin 576} (h : Before p i i) : False := by
  rcases h with h | ⟨_, h⟩
  · exact lt_irrefl _ h
  · exact lt_irrefl _ h

/-- What comes before has the smaller rank. -/
theorem rank_lt {p : Fin 576 → EReal} {i j : Fin 576} (h : Before p i j) : rank p i < rank p j := by
  unfold rank
  refine Finset.card_lt_card ⟨fun x hx => ?_, fun hs => ?_⟩
  · have hx' : Before p x i := by simpa [Before] using hx
    have := before_trans hx' h
    simpa [Before] using this
  · have : i ∈ Finset.univ.filter fun x => p i < p x ∨ (p x = p i ∧ x < i) := by
      have : Before p i j := h
      exact hs (by simpa [Before] using this)
    have : Before p i i := by simpa [Before] using this
    exact before_irrefl this

/-- Of two one comes before the other. -/
theorem before_total {p : Fin 576 → EReal} {i j : Fin 576} (h : i ≠ j) : Before p i j ∨ Before p j i := by
  rcases lt_trichotomy (p i) (p j) with hp | hp | hp
  · exact Or.inr (Or.inl hp)
  · rcases lt_or_gt_of_ne h with hi | hi
    · exact Or.inl (Or.inr ⟨hp, hi⟩)
    · exact Or.inr (Or.inr ⟨hp.symm, hi⟩)
  · exact Or.inl (Or.inl hp)

/-- Ranks tell the tokens apart. -/
theorem rank_inj {p : Fin 576 → EReal} {i j : Fin 576} (h : rank p i = rank p j) : i = j := by
  by_contra hne
  rcases before_total (p := p) hne with hb | hb <;> have := rank_lt hb <;> omega

/-- A rank is below 576. -/
theorem rank_bound (p : Fin 576 → EReal) (i : Fin 576) : rank p i < 576 := by
  have : rank p i < (Finset.univ : Finset (Fin 576)).card := by
    unfold rank
    refine Finset.card_lt_card ⟨Finset.filter_subset _ _, fun hs => ?_⟩
    have : i ∈ Finset.univ.filter fun x => p i < p x ∨ (p x = p i ∧ x < i) := hs (Finset.mem_univ i)
    have : Before p i i := by simpa [Before] using this
    exact before_irrefl this
  simpa using this

/-- The stable sort by falling score leaves no pair out of order. -/
theorem sorted_before {n : ℕ} (p : Fin n → EReal) (i j : Fin n) (hij : i < j) :
    p (sortedFrom (fun a b => decide (p b < p a)) j) < p (sortedFrom (fun a b => decide (p b < p a)) i)
      ∨ (p (sortedFrom (fun a b => decide (p b < p a)) i) = p (sortedFrom (fun a b => decide (p b < p a)) j)
        ∧ sortedFrom (fun a b => decide (p b < p a)) i < sortedFrom (fun a b => decide (p b < p a)) j) := by
  let G : Fin n → ℕ := fun a => (Finset.univ.filter fun x => p x < p a).card
  have lt : ∀ {a b}, p b < p a → G b < G a := fun {a b} h => Finset.card_lt_card ⟨fun x hx => by
      have : p x < p b := by simpa using hx
      simpa using this.trans h, fun hs => by
      have : b ∈ Finset.univ.filter fun x => p x < p b := hs (by simpa using h)
      simp at this⟩
  have eq : ∀ {a b}, p a = p b → G a = G b := fun {a b} h => by simp only [G, h]
  have iff : ∀ a b, G b < G a ↔ p b < p a := fun a b => ⟨fun h => by
    rcases lt_trichotomy (p b) (p a) with h' | h' | h'
    · exact h'
    · have := eq h'; omega
    · have := lt h'; omega, lt⟩
  have eqv : ∀ a b, G a = G b → p a = p b := fun a b h => by
    rcases lt_trichotomy (p b) (p a) with h' | h' | h'
    · have := lt h'; omega
    · exact h'.symm
    · have := lt h'; omega
  have hsort := PlanTiles.pairwise_stableSort_lex G (· < ·) (List.finRange n) (List.pairwise_lt_finRange n)
  have hfun : (fun x y : Fin n => decide (G y < G x)) = fun a b => decide (p b < p a) := by
    funext a b; exact decide_eq_decide.mpr (iff a b)
  rw [hfun] at hsort
  have := List.pairwise_iff_get.mp hsort (i.cast (length_sortPositions n _).symm) (j.cast (length_sortPositions n _).symm)
    (by simp only [Fin.lt_def, Fin.val_cast]; exact hij)
  rcases this with h | ⟨h, h'⟩
  · exact Or.inl ((iff _ _).mp h)
  · exact Or.inr ⟨eqv _ _ h, h'⟩

/-- A rising map of the places to themselves moves none. -/
theorem rising_eq {n : ℕ} (f : Fin n → Fin n) (hf : StrictMono f) : f = id :=
  funext fun i => le_antisymm (StrictMono.apply_le hf) (StrictMono.le_apply hf)

/-- The token the stable sort puts at place `r` has rank `r`. -/
theorem rank_sorted (p : Fin 576 → EReal) (r : Fin 576) :
    rank p (sortedFrom (fun a b : Fin 576 => decide (p b < p a)) r) = r.val :=
  congrArg Fin.val (congrFun (rising_eq (fun i => ⟨rank p (sortedFrom (fun a b : Fin 576 => decide (p b < p a)) i), rank_bound p _⟩)
    fun i j hij => rank_lt (sorted_before p i j hij)) r)

/-- A word that is one where its condition holds and zero elsewhere, summed, counts. -/
theorem sum_ones (P : Fin 576 → Prop) [DecidablePred P] :
    (∑ x, (if P x then (1 : EReal) else 0)) = (((Finset.univ.filter P).card : ℕ) : EReal) := by
  rw [Finset.sum_boole]

/-- The exclusive sum of words that are zero away from one place is the word there. -/
theorem fold_single (f : Fin 576 → BitVec 32) (j : Fin 576) (h : ∀ x, x ≠ j → f x = 0#32) :
    Finset.fold IntOp.addi (0#32) f Finset.univ = f j := by
  have key : ∀ s : Finset (Fin 576), Finset.fold IntOp.addi (0#32) f s = if j ∈ s then f j else 0#32 := by
    intro s
    induction s using Finset.induction_on with
    | empty => simp
    | insert a s ha ih =>
      rw [Finset.fold_insert ha, ih]
      by_cases hj : a = j
      · subst hj; simp [ha, IntOp.addi]
      · have hj' : ¬ j = a := fun h => hj h.symm
        rw [h a hj]; simp [hj', IntOp.addi]
  rw [key]; simp

end Cert.Spec
-- ==== Proof.Pays.lean ====
/- What the kernel's vector operations compute, read at an index, one stage after another. -/
module

public import proofs.«01_k».proof.Proof.Rank
public import proofs.«01_k».proof.Proof.Gen.KernelIdeal.Skeleton
public import Idealize.ShloMosaic.Lib.Pointwise

@[expose] public section

set_option maxRecDepth 16384

noncomputable section

namespace Cert.KernelIdeal.Val

open Cert.KernelIdeal Cert.KernelIdeal.Gen Cert.Spec
open Idealize.ShloMosaic Idealize.ShloMosaic.TcCoe Idealize.SL.Sem

/-- The query rows, normalised. -/
theorem pay4_apply (v : Vec Ideal S1x576x768 .f32) (n : Fin 576) (c : Fin 768) :
    k0_pay4 (F := Ideal) v (ix2 n c) = ln (fun c => v (ix3 0 n c)) c := by
  pointwise [k0_pay4, k0_pay2]
  rw [sum_tiles (fun c => v (ix3 0 n c))]
  rw [sum_tiles (fun c => (v (ix3 0 n c) - Ideal.div (∑ c, v (ix3 0 n c)) (Ideal.ofBits .f32 0x44400000#32))
    * (v (ix3 0 n c) - Ideal.div (∑ c, v (ix3 0 n c)) (Ideal.ofBits .f32 0x44400000#32)))]
  rfl

/-- The queries. -/
theorem pay7_apply (x : FVec Ideal S576x768 .f32) (w : Vec Ideal S768x768 .f32) (n : Fin 576) (j : Fin 768) :
    k0_pay7 (F := Ideal) x w (ix2 n j) = ∑ c, x (ix2 n c) * w (ix2 c j) := by
  pointwise [k0_pay7]

/-- The keys and the values, from the base rows normalised. -/
theorem pay8_apply (v : Vec Ideal S1x576x768 .f32) (w : Vec Ideal S768x1536 .f32) (n : Fin 576) (j : Fin 1536) :
    k0_pay8 (F := Ideal) (k0_pay3 v) (k0_pay5 v) (k0_pay6 v) w (ix2 n j)
      = ∑ c, ln (fun c => v (ix3 0 n c)) c * w (ix2 c j) := by
  pointwise [k0_pay8, k0_pay3, k0_pay5, k0_pay6]
  rw [sum_tiles (fun c => v (ix3 0 n c))]
  rw [sum_tiles (fun c => (v (ix3 0 n c) - Ideal.div (∑ c, v (ix3 0 n c)) (Ideal.ofBits .f32 0x44400000#32))
    * (v (ix3 0 n c) - Ideal.div (∑ c, v (ix3 0 n c)) (Ideal.ofBits .f32 0x44400000#32)))]
  rfl

/-- One head, from its slices of the queries, the keys and the values. -/
def headVec (q k v : FVec Ideal S576x96 .bf16) : FVec Ideal S576x96 .bf16 :=
  have s : FVec Ideal S576x576 .f32 := mulf (matmul dot_S576x96_S576x96_S576x576_1_1_0_0_n_n none k q (constant S576x576 .f32 0x00000000#32))
    (broadcast S576x576 (Scalar.ofBits .f32 0x3DD105EC#32))
  have e : FVec Ideal S576x576 .f32 := exp (subf s (broadcastTo S576x576
    (shapeCast S1x576 (multiReduction .maximumf [0] S576 s 0xFF800000#32 reduces_S576x576_S576 (.inl rfl) rfl) shapeCasts_S576_S1x576) broadcasts_S1x576_S576x576))
  have a : FVec Ideal S576x576 .f32 := divf e (broadcastTo S576x576
    (shapeCast S1x576 (multiReduction .add [0] S576 e 0x00000000#32 reduces_S576x576_S576 (.inl rfl) rfl) shapeCasts_S576_S1x576) broadcasts_S1x576_S576x576)
  shapeCast S576x96 (truncf .bf16 (matmul dot_S576x576_S576x96_S576x96_1_0_0_1_n_n none
    (transpose S576x576 [1, 0] a transposes_S576x576_p1_0_S576x576) (extf .f32 v bitsLt_bf16_f32) (constant S576x96 .f32 0x00000000#32)) bitsLt_bf16_f32)
    shapeCasts_S576x96_S576x96

/-- A head's scores weigh its values. -/
theorem headVec_apply (q k v : FVec Ideal S576x96 .bf16) (n : Fin 576) (d : Fin 96) :
    headVec q k v (ix2 n d)
      = ∑ m, soft (fun m => (∑ d, q (ix2 n d) * k (ix2 m d)) * Ideal.ofBits .f32 0x3DD105EC#32) m * v (ix2 m d) := by
  pointwise [headVec]
  simp only [mul_comm (k _)]
  rfl

/-- The heads, one after another. -/
def headAt (q : FVec Ideal S576x768 .bf16) (kv : FVec Ideal S576x1536 .bf16) : Fin 8 → FVec Ideal S576x96 .bf16
  | 0 => k0_pay10 (F := Ideal) kv (extractStridedSlice S576x96 ![0, 0] q slices_S576x768_o0_0_S576x96)
  | 1 => k0_pay11 (F := Ideal) q kv
  | 2 => k0_pay13 (F := Ideal) kv (k0_pay12 q)
  | 3 => k0_pay14 (F := Ideal) q kv
  | 4 => k0_pay16 (F := Ideal) kv (k0_pay15 q)
  | 5 => k0_pay17 (F := Ideal) q kv
  | 6 => k0_pay19 (F := Ideal) kv (k0_pay18 q)
  | 7 => k0_pay20 (F := Ideal) q kv

/-- Each head is the same function of its lanes. -/
theorem headAt_apply (q : FVec Ideal S576x768 .bf16) (kv : FVec Ideal S576x1536 .bf16) (h : Fin 8) (n : Fin 576) (d : Fin 96) :
    headAt q kv h (ix2 n d) = head (fun n c => q (ix2 n c)) (fun n c => kv (ix2 n c)) h n d := by
  have key : ∀ (s1 : S576x768.Slices ![0, h.val * 96] S576x96) (s2 : S576x1536.Slices ![0, h.val * 96] S576x96)
      (s3 : S576x1536.Slices ![0, 768 + h.val * 96] S576x96),
      headVec (extractStridedSlice S576x96 ![0, h.val * 96] q s1) (extractStridedSlice S576x96 ![0, h.val * 96] kv s2)
        (extractStridedSlice S576x96 ![0, 768 + h.val * 96] kv s3) (ix2 n d)
      = head (fun n c => q (ix2 n c)) (fun n c => kv (ix2 n c)) h n d := by
    intro s1 s2 s3
    rw [headVec_apply]
    pointwise [head, score, lane, keyLane, valLane]
    refine Finset.sum_congr rfl fun x _ => congrArg₂ (· * ·) rfl (congrArg kv (congrArg (ix2 x) (Fin.ext ?_)))
    exact Nat.add_assoc _ _ _
  have fits : ∀ (N o : ℕ), o + 96 ≤ N → (⟨2, ![576, N]⟩ : Shape).Slices ![0, o] S576x96 := fun N o ho =>
    ⟨rfl, fun a => by fin_cases a <;> simp [ho]⟩
  have e := key (fits 768 _ (by omega)) (fits 1536 _ (by omega)) (fits 1536 _ (by omega))
  fin_cases h <;> exact e

/-- The tokens after the attention: the heads through their weight, added to the tokens. -/
theorem pay21_apply (x : FVec Ideal S576x768 .f32) (o : Vec Ideal S576x768 .bf16) (w : Vec Ideal S768x768 .f32) (n : Fin 576) (j : Fin 768) :
    k0_pay21 (F := Ideal) x o w (ix2 n j) = x (ix2 n j) + ∑ c, o (ix2 n c) * w (ix2 c j) := by
  pointwise [k0_pay21]

/-- Their normalised rows. -/
theorem pay22_apply (x : FVec Ideal S576x768 .f32) (o : Vec Ideal S576x768 .bf16) (w : Vec Ideal S768x768 .f32) (n : Fin 576) (j : Fin 768) :
    k0_pay22 (F := Ideal) x o w (ix2 n j) = ln (fun c => k0_pay21 (F := Ideal) x o w (ix2 n c)) j := by
  pointwise [k0_pay22]
  rw [sum_tiles (fun c => k0_pay21 (F := Ideal) x o w (ix2 n c))]
  rw [sum_tiles (fun c => (k0_pay21 (F := Ideal) x o w (ix2 n c)
      - Ideal.div (∑ c, k0_pay21 (F := Ideal) x o w (ix2 n c)) (Ideal.ofBits .f32 0x44400000#32))
    * (k0_pay21 (F := Ideal) x o w (ix2 n c)
      - Ideal.div (∑ c, k0_pay21 (F := Ideal) x o w (ix2 n c)) (Ideal.ofBits .f32 0x44400000#32)))]
  rfl

/-- The network's first layer. -/
theorem pay23_apply (x : FVec Ideal S576x768 .f32) (w : Vec Ideal S768x768 .f32) (n : Fin 576) (j : Fin 768) :
    k0_pay23 (F := Ideal) x w (ix2 n j) = ∑ c, x (ix2 n c) * w (ix2 c j) := by
  pointwise [k0_pay23]

/-- From `1` on a quotient by `|z|` is a product with its reciprocal. -/
theorem div_eq_mul_div {a e : EReal} (h : ¬ a < 1) : e * Ideal.div 1 a = Ideal.div e a := by
  have ha : a ≠ 0 := fun h0 => h (h0 ▸ zero_lt_one)
  simp only [Ideal.div, if_neg ha, one_mul]

/-- The tokens after the network: the first layer's gelu through the second weight, added to the tokens. -/
theorem pay36_apply (a : FVec Ideal S576x768 .f32) (x : FVec Ideal S576x768 .f32) (w : Vec Ideal S768x768 .f32) (w2 : Vec Ideal S768x768 .f32)
    (n : Fin 576) (j : Fin 768) :
    k0_pay36 (F := Ideal) a (k0_pay24 x w) (k0_pay25 x w) (k0_pay26 x w) (k0_pay28 x w) (k0_pay29 x w) (k0_pay30 x w)
        (k0_pay34 (k0_pay31 x w) (k0_pay32 x w) k0_pay33) (k0_pay35 (k0_pay31 x w)) (FloatOps.ofBits .f32 1073741824#32) w2 (ix2 n j)
      = a (ix2 n j) + ∑ c, gelu (k0_pay23 (F := Ideal) x w (ix2 n c)) * w2 (ix2 c j) := by
  pointwise [k0_pay36]
  refine congrArg₂ (· + ·) rfl (Finset.sum_congr rfl fun c _ => congrArg₂ (· * ·) ?_ rfl)
  have h25 : k0_pay25 (F := Ideal) x w (ix2 n c) = -k0_pay23 (F := Ideal) x w (ix2 n c) * Ideal.ofBits .f32 0x3F3504F3#32 := by
    pointwise [k0_pay25]; rw [zero_sub]
  have h24 : k0_pay24 (F := Ideal) x w (ix2 n c) = Ideal.ofBits .f32 0x3F000000#32 * k0_pay23 (F := Ideal) x w (ix2 n c) := by
    pointwise [k0_pay24]; exact mul_comm _ _
  rw [gelu, h24, ← h25]
  refine congrArg₂ (· * ·) rfl ?_
  generalize hz : k0_pay25 (F := Ideal) x w (ix2 n c) = z
  have h26 : k0_pay26 (F := Ideal) x w (ix2 n c) = max z (-z) := by pointwise [k0_pay26]; rw [hz]; rfl
  have h27 : k0_pay27 (F := Ideal) x w (ix2 n c) = z * z := by pointwise [k0_pay27]; rw [hz]
  have h28 : k0_pay28 (F := Ideal) x w (ix2 n c) = 1 - z * polySmall (z * z) := by pointwise [k0_pay28]; rw [hz, h27]; rfl
  have h29 : k0_pay29 (F := Ideal) x w (ix2 n c) = -(z * z) := by pointwise [k0_pay29]; rw [h27, zero_sub]
  have h30 : k0_pay30 (F := Ideal) x w (ix2 n c) = Ideal.exp (-(z * z)) * Ideal.div 1 (max z (-z)) := by pointwise [k0_pay30]; rw [h26, h29]
  have h31 : k0_pay31 (F := Ideal) x w (ix2 n c) = Ideal.div 1 (z * z) := by pointwise [k0_pay31]; rw [h27]
  have h34 : k0_pay34 (F := Ideal) (k0_pay31 x w) (k0_pay32 x w) k0_pay33 (ix2 n c) = polyNear (Ideal.div 1 (z * z)) := by
    pointwise [k0_pay34, k0_pay32, k0_pay33]; rw [h31]; rfl
  have h35 : k0_pay35 (F := Ideal) (k0_pay31 x w) (ix2 n c) = polyFar (Ideal.div 1 (z * z)) := by
    pointwise [k0_pay35]; rw [h31]; rfl
  rw [h26, h28, h29, h30, h34, h35]
  unfold erfc Spec.tail
  split
  · rfl
  · rename_i h; rw [div_eq_mul_div h]

/-- The mean of the gathered rows. -/
theorem pay39_apply (v : Vec Ideal S64x768 .f32) (c : Fin 768) :
    k0_pay39 (F := Ideal) v (ix2 0 c) = Ideal.div (∑ m, v (ix2 m c)) (Ideal.ofBits .f32 0x42800000#32) := by
  pointwise [k0_pay39]

/-- The row sums of the products with that mean. -/
theorem pay42_apply (v : FVec Ideal S576x768 .f32) (n : Fin 576) :
    k0_pay42 (F := Ideal) v (ix2 n 0) = ∑ c, v (ix2 n c) := by
  pointwise [k0_pay42]
  rw [sum_tiles (fun c => v (ix2 n c))]

/-- The product of the two lengths. -/
theorem pay43_apply (v : FVec Ideal S576x768 .f32) (k : FVec Ideal S1x768 .f32) (n : Fin 576) :
    k0_pay43 (F := Ideal) v k (ix2 n 0) = norm (fun c => v (ix2 n c)) * norm (fun c => k (ix2 0 c)) := by
  pointwise [k0_pay43]
  rw [sum_tiles (fun c => v (ix2 n c) * v (ix2 n c)), sum_tiles (fun c => k (ix2 0 c) * k (ix2 0 c))]
  rfl

/-- The scores, from the sums and the lengths. -/
theorem pay44_apply (a b : FVec Ideal S576x1 .f32) (n : Fin 576) :
    k0_pay44 (F := Ideal) a b (ix2 n 0)
      = Ideal.div (Ideal.div (a (ix2 n 0)) (b (ix2 n 0)) + 1) (Ideal.ofBits .f32 0x40000000#32) := by
  pointwise [k0_pay44]

/-- The scores in a row. -/
theorem pay45_apply (a b : FVec Ideal S576x1 .f32) (n : Fin 576) :
    k0_pay45 (F := Ideal) a b (ix2 0 n) = k0_pay44 (F := Ideal) a b (ix2 n 0) := by
  pointwise [k0_pay45]

/-- A choice by a truth word is the choice by the truth. -/
theorem select_ofBool {α : Type} (P : Prop) [Decidable P] (a b : α) : Scalar.select (BitVec.ofBool (decide P)) a b = if P then a else b := by
  by_cases h : P <;> simp [h, Scalar.select]

/-- Places below `576` compare as words the way they compare as numbers. -/
theorem slt_place (x j : Fin 576) : IntOp.cmpi .slt (BitVec.ofNat 32 x.val) (BitVec.ofNat 32 j.val) = BitVec.ofBool (decide (x < j)) := by
  have hx := x.isLt
  have hj := j.isLt
  show BitVec.ofBool (BitVec.slt _ _) = _
  congr 1
  rw [BitVec.slt_eq_decide, BitVec.toInt_eq_toNat_of_lt (by rw [BitVec.toNat_ofNat]; omega), BitVec.toInt_eq_toNat_of_lt (by rw [BitVec.toNat_ofNat]; omega)]
  simp only [BitVec.toNat_ofNat, Fin.lt_def]
  rw [Nat.mod_eq_of_lt (by omega), Nat.mod_eq_of_lt (by omega)]
  exact decide_eq_decide.mpr Nat.cast_lt

/-- The truth word of "comes before". -/
theorem before_word (P Q R : Prop) [Decidable P] [Decidable Q] [Decidable R] :
    IntOp.ori (BitVec.ofBool (decide P)) (IntOp.andi (BitVec.ofBool (decide Q)) (BitVec.ofBool (decide R)))
      = BitVec.ofBool (decide (P ∨ (Q ∧ R))) := by
  by_cases hP : P <;> by_cases hQ : Q <;> by_cases hR : R <;> simp [hP, hQ, hR] <;> decide

/-- Row `r` marks the token of rank `r`. -/
theorem pay47_apply (a b : FVec Ideal S576x1 .f32) (r : Fin 72) (j : Fin 576) :
    k0_pay47 (F := Ideal) a b (ix2 r j) = BitVec.ofBool (decide (rank (fun n => k0_pay44 (F := Ideal) a b (ix2 n 0)) j = r.val)) := by
  pointwise [k0_pay47, pay45_apply]
  simp only [slt_place, before_word, select_ofBool]
  rw [sum_ones]
  refine congrArg BitVec.ofBool (decide_eq_decide.mpr ?_)
  have hr : (FloatOps.sitofp (F := Ideal) FTy.f32 (BitVec.ofNat 32 r.val)) = ((r.val : ℕ) : EReal) := by
    have h32 := r.isLt
    show (((BitVec.ofNat 32 r.val).toInt : ℝ) : EReal) = _
    rw [BitVec.toInt_eq_toNat_of_lt (by rw [BitVec.toNat_ofNat]; omega), BitVec.toNat_ofNat, Nat.mod_eq_of_lt (by omega)]
    simp
  rw [hr, Nat.cast_inj]
  rfl

/-- The index in row `r`: the token of rank `r`. -/
theorem pay48_apply (a b : FVec Ideal S576x1 .f32) (r : Fin 72) (j : Fin 576)
    (h : rank (fun n => k0_pay44 (F := Ideal) a b (ix2 n 0)) j = r.val) :
    k0_pay48 (F := Ideal) a b (ix3 0 r 0) = BitVec.ofNat 32 j.val := by
  pointwise [k0_pay48]
  simp only [pay47_apply, select_ofBool]
  rw [fold_single _ j, if_pos h]
  intro x hx
  exact if_neg fun h' => hx (rank_inj (h'.trans h.symm))

/-- The selection in row `r`: one at the token of rank `r` where its score is above zero. -/
theorem pay1_apply (a b : FVec Ideal S576x1 .f32) (r : Fin 72) (j : Fin 576) :
    k0_pay1 (F := Ideal) (k0_pay47 a b) (k0_pay49 a b) (ix3 0 r j)
      = if rank (fun n => k0_pay44 (F := Ideal) a b (ix2 n 0)) j = r.val ∧ 0 < k0_pay44 (F := Ideal) a b (ix2 j 0) then 1 else 0 := by
  pointwise [k0_pay1, k0_pay49, pay45_apply]
  rw [pay47_apply]
  by_cases hP : rank (fun n => k0_pay44 (F := Ideal) a b (ix2 n 0)) j = r.val
    <;> by_cases hQ : 0 < k0_pay44 (F := Ideal) a b (ix2 j 0) <;> simp [hP, hQ, Scalar.select, IntOp.andi]

/-- What is written: the stages' results under a leading axis of length one. -/
theorem pay2_apply (v : Vec Ideal S1x576x768 .f32) (n : Fin 576) (c : Fin 768) : k0_pay2 (F := Ideal) v (ix2 n c) = v (ix3 0 n c) := by
  pointwise [k0_pay2]

/-- A row, with its unit axis dropped. -/
theorem pay38_apply (v : Vec Ideal S1x1x768 .f32) (d : Fin 768) : k0_pay38 (F := Ideal) v (ix2 0 d) = v (ix3 0 0 d) := by
  pointwise [k0_pay38]

/-- The mean, with a unit axis put before it. -/
theorem pay40_apply (v : Vec Ideal S64x768 .f32) (c : Fin 768) : k0_pay40 (F := Ideal) v (ix3 0 0 c) = k0_pay39 (F := Ideal) v (ix2 0 c) := by
  pointwise [k0_pay40]

/-- The scores as a row. -/
theorem pay46_apply (a b : FVec Ideal S576x1 .f32) (n : Fin 576) :
    k0_pay46 (F := Ideal) a b (ix3 0 0 n) = k0_pay44 (F := Ideal) a b (ix2 n 0) := by
  pointwise [k0_pay46, pay45_apply]

/-- The tokens, with a unit axis put before them. -/
theorem pay37_apply (a1 a2 a3 a4 a5 a6 a7 a8 a9 : FVec Ideal S576x768 .f32) (s : Ideal .f32) (w : Vec Ideal S768x768 .f32) (n : Fin 576) (c : Fin 768) :
    k0_pay37 (F := Ideal) a1 a2 a3 a4 a5 a6 a7 a8 a9 s w (ix3 0 n c) = k0_pay36 (F := Ideal) a1 a2 a3 a4 a5 a6 a7 a8 a9 s w (ix2 n c) := by
  pointwise [k0_pay37]

/-- The products of a token with the mean. -/
theorem pay41_apply (a1 a2 a3 a4 a5 a6 a7 a8 a9 : FVec Ideal S576x768 .f32) (s : Ideal .f32) (w : Vec Ideal S768x768 .f32) (v : Vec Ideal S64x768 .f32)
    (n : Fin 576) (c : Fin 768) :
    k0_pay41 (F := Ideal) a1 a2 a3 a4 a5 a6 a7 a8 a9 s w v (ix2 n c)
      = k0_pay36 (F := Ideal) a1 a2 a3 a4 a5 a6 a7 a8 a9 s w (ix2 n c) * k0_pay39 (F := Ideal) v (ix2 0 c) := by
  pointwise [k0_pay41]

end Cert.KernelIdeal.Val

end
-- ==== Proof.Outs.lean ====
/- What the body leaves in each output's block, read at an index: the layer's formulas of the input blocks. -/
module

public import proofs.«01_k».proof.Proof.Pays
public import proofs.«01_k».proof.Proof.WordsKernelIdeal
public import Idealize.ShloMosaic.Lib.Pipeline.ValueKit

@[expose] public section

set_option maxRecDepth 16384

noncomputable section

namespace Cert.KernelIdeal.Val

open Cert.KernelIdeal Cert.KernelIdeal.Gen Cert.KernelIdeal.Body Cert.Spec
open Idealize.ShloMosaic Idealize.ShloMosaic.TcCoe Idealize.ShloMosaic.Tactic

variable (m : (ℓ : Loc nD τ sig) → Buf (Elt Ideal) ℓ) (hH : Hyps m)

/-- A load of a whole buffer is the buffer. -/
theorem load_whole {sp} {s : Shape} {e : EltTy} (M : Memref sig .tc sp s e) (h : M.IsWhole) (x : Vec Ideal s e) (off : Fin s.rank → ℕ)
    (inb : ∀ a, off a + s.size a ≤ s.size a) :
    View.readAt (Elt Ideal) M.view (Rect.unit off s.size inb).toLoadRect (h.unread x) = x := by
  funext y
  rw [View.readAt_apply, Memref.IsWhole.read_unread]
  refine congrArg x (funext fun a => Fin.ext ?_)
  have := inb a
  show off a + 1 * (y a).val = (y a).val
  omega

/-- The block of the search's tokens. -/
abbrev inX (c : Dev nD) (t : Fin cfg0.N) (n : Fin 576) (j : Fin 768) : EReal := iblk m c 2 t (ix3 0 n j)
/-- The block of the base's tokens. -/
abbrev inY (c : Dev nD) (t : Fin cfg0.N) (n : Fin 576) (j : Fin 768) : EReal := iblk m c 1 t (ix3 0 n j)
/-- The queries' weight. -/
abbrev inQ (c : Dev nD) (t : Fin cfg0.N) (j k : Fin 768) : EReal := iblk m c 3 t (ix2 k j)
/-- The keys' and values' weight. -/
abbrev inKV (c : Dev nD) (t : Fin cfg0.N) (j : Fin 1536) (k : Fin 768) : EReal := iblk m c 4 t (ix2 k j)
/-- The projection's weight. -/
abbrev inP (c : Dev nD) (t : Fin cfg0.N) (j k : Fin 768) : EReal := iblk m c 5 t (ix2 k j)
/-- The network's first weight. -/
abbrev in1 (c : Dev nD) (t : Fin cfg0.N) (j k : Fin 768) : EReal := iblk m c 6 t (ix2 k j)
/-- The network's second weight. -/
abbrev in2 (c : Dev nD) (t : Fin cfg0.N) (j k : Fin 768) : EReal := iblk m c 7 t (ix2 k j)

/-- The queries. -/
theorem queries (c : Dev nD) (t : Fin cfg0.N) (n : Fin 576) (j : Fin 768) :
    bodyRun.sl.r_5 c (ms0_2 t) (hs0_2 t) (ms0_3 t) (hs0_3 t) (iblk m c 2 t) (iblk m c 3 t) (ix2 n j)
      = proj (fun n => ln (inX m c t n)) (inQ m c t) n j := by
  unfold bodyRun.sl.r_5
  rw [pay7_apply]
  unfold bodyRun.sl.r_2
  rw [load_whole (ms0_3 t) (hs0_3 t) (iblk m c 3 t)]
  refine Finset.sum_congr rfl fun k _ => ?_
  rw [pay4_apply, load_whole (ms0_2 t) (hs0_2 t) (iblk m c 2 t)]

/-- The keys and the values. -/
theorem keysValues (c : Dev nD) (t : Fin cfg0.N) (n : Fin 576) (j : Fin 1536) :
    bodyRun.sl.r_6 c (ms0_1 t) (hs0_1 t) (ms0_4 t) (hs0_4 t) (iblk m c 1 t) (iblk m c 4 t) (ix2 n j)
      = proj (fun n => ln (inY m c t n)) (inKV m c t) n j := by
  unfold bodyRun.sl.r_6 bodyRun.sl.r_1 bodyRun.sl.r_3 bodyRun.sl.r_4
  rw [load_whole (ms0_4 t) (hs0_4 t) (iblk m c 4 t), load_whole (ms0_1 t) (hs0_1 t) (iblk m c 1 t), pay8_apply]
  rfl

/-- The heads side by side, at a lane given as a lane of a head. -/
theorem heads_at (q : Fin 576 → Fin 768 → EReal) (kv : Fin 576 → Fin 1536 → EReal) (h : Fin 8) (n : Fin 576) (c : Fin 768) (d : Fin 96)
    (hc : c.val = h.val * 96 + d.val) : heads q kv n c = head q kv h n d := by
  unfold heads
  have e1 : (⟨c.val / 96, by omega⟩ : Fin 8) = h := Fin.ext (by show c.val / 96 = h.val; omega)
  have e2 : (⟨c.val % 96, by omega⟩ : Fin 96) = d := Fin.ext (by show c.val % 96 = d.val; omega)
  rw [e1, e2]

/-- A head's result, among the heads side by side. -/
theorem heads_headAt (q : FVec Ideal S576x768 .bf16) (kv : FVec Ideal S576x1536 .bf16) (h : Fin 8) (n : Fin 576) (j : Fin 768) (x : S576x96.Idx)
    (o : ℕ) (ho : h.val * 96 = o) (h0 : n.val = (x 0).val) (h1 : j.val = o + (x 1).val) :
    headAt q kv h x = heads (fun n c => q (ix2 n c)) (fun n c => kv (ix2 n c)) n j := by
  obtain ⟨d, rfl⟩ : ∃ d : Fin 96, x = ix2 n d := ⟨x 1, funext fun a => Fin.ext (by fin_cases a <;> simp [h0])⟩
  rw [headAt_apply]
  exact (heads_at _ _ h n j d (by rw [ho]; exact h1)).symm

/-- The attention's results, as the first scratch buffer holds them. -/
theorem attention (c : Dev nD) (t : Fin cfg0.N) (n : Fin 576) (j : Fin 768) :
    bodyRun.sl.v272 c (ms0_1 t) (hs0_1 t) (ms0_2 t) (hs0_2 t) (ms0_3 t) (hs0_3 t) (ms0_4 t) (hs0_4 t) scM0_0 (iblk m c 1 t) (iblk m c 2 t)
        (iblk m c 3 t) (iblk m c 4 t) (ix2 n j)
      = heads (proj (fun n => ln (inX m c t n)) (inQ m c t)) (proj (fun n => ln (inY m c t n)) (inKV m c t)) n j := by
  have hq : (fun n c' => bodyRun.sl.r_5 c (ms0_2 t) (hs0_2 t) (ms0_3 t) (hs0_3 t) (iblk m c 2 t) (iblk m c 3 t) (ix2 n c'))
      = proj (fun n => ln (inX m c t n)) (inQ m c t) := by funext n c'; exact queries m c t n c'
  have hkv : (fun n c' => bodyRun.sl.r_6 c (ms0_1 t) (hs0_1 t) (ms0_4 t) (hs0_4 t) (iblk m c 1 t) (iblk m c 4 t) (ix2 n c'))
      = proj (fun n => ln (inY m c t n)) (inKV m c t) := by funext n c'; exact keysValues m c t n c'
  rw [← hq, ← hkv]
  clear hq hkv
  unfold bodyRun.sl.v272
  rw [View.readCov_eq_canon']
  have hi : (Rect.unit (s := S576x768) ![0, 0] S576x768.size inb_S576x768_S576x768_0_0).toLoadRect.idx (ix2 n j) = ix2 n j :=
    funext fun a => Fin.ext (by fin_cases a <;> simp)
  beta_reduce
  rw [hi]
  have h7 : bodyRun.sl.r_7 c (ms0_2 t) (hs0_2 t) (ms0_3 t) (hs0_3 t) (iblk m c 2 t) (iblk m c 3 t)
      = extractStridedSlice S576x96 ![0, 0] (bodyRun.sl.r_5 c (ms0_2 t) (hs0_2 t) (ms0_3 t) (hs0_3 t) (iblk m c 2 t) (iblk m c 3 t))
        slices_S576x768_o0_0_S576x96 := by
    unfold bodyRun.sl.r_7 bodyRun.sl.r_5 k0_pay9 k0_pay7; rfl
  unfold bodyRun.sl.HS0_8
  rw [h7]
  unfold bodyRun.sl.r_8 bodyRun.sl.r_9 bodyRun.sl.r_10
  generalize bodyRun.sl.r_5 c (ms0_2 t) (hs0_2 t) (ms0_3 t) (hs0_3 t) (iblk m c 2 t) (iblk m c 3 t) = q
  generalize bodyRun.sl.r_6 c (ms0_1 t) (hs0_1 t) (ms0_4 t) (hs0_4 t) (iblk m c 1 t) (iblk m c 4 t) = kv
  canon_tiles x h
  case piece0 => exact heads_headAt q kv 7 n j x _ rfl h0 h1
  case piece1 => exact heads_headAt q kv 6 n j x _ rfl h0 h1
  case piece2 => exact heads_headAt q kv 5 n j x _ rfl h0 h1
  case piece3 => exact heads_headAt q kv 4 n j x _ rfl h0 h1
  case piece4 => exact heads_headAt q kv 3 n j x _ rfl h0 h1
  case piece5 => exact heads_headAt q kv 2 n j x _ rfl h0 h1
  case piece6 => exact heads_headAt q kv 1 n j x _ rfl h0 h1
  case piece7 => exact heads_headAt q kv 0 n j x 0 rfl h0 (h1.trans (Nat.zero_add _).symm)

/-- The tokens after the attention. -/
theorem mid_apply (c : Dev nD) (t : Fin cfg0.N) (n : Fin 576) (j : Fin 768) :
    bodyRun.sl.r_11 c (ms0_1 t) (hs0_1 t) (ms0_2 t) (hs0_2 t) (ms0_3 t) (hs0_3 t) (ms0_4 t) (hs0_4 t) (ms0_5 t) (hs0_5 t) scM0_0 (iblk m c 1 t)
        (iblk m c 2 t) (iblk m c 3 t) (iblk m c 4 t) (iblk m c 5 t) (ix2 n j)
      = mid (inX m c t) (inY m c t) (inQ m c t) (inKV m c t) (inP m c t) n j := by
  unfold bodyRun.sl.r_11
  rw [pay21_apply, load_whole (ms0_5 t) (hs0_5 t) (iblk m c 5 t)]
  unfold bodyRun.sl.r
  rw [pay2_apply, load_whole (ms0_2 t) (hs0_2 t) (iblk m c 2 t)]
  refine congrArg₂ (· + ·) rfl (Finset.sum_congr rfl fun k _ => ?_)
  rw [attention]

/-- Their normalised rows. -/
theorem hidden_apply (c : Dev nD) (t : Fin cfg0.N) (n : Fin 576) (j : Fin 768) :
    bodyRun.sl.r_12 c (ms0_1 t) (hs0_1 t) (ms0_2 t) (hs0_2 t) (ms0_3 t) (hs0_3 t) (ms0_4 t) (hs0_4 t) (ms0_5 t) (hs0_5 t) scM0_0 (iblk m c 1 t)
        (iblk m c 2 t) (iblk m c 3 t) (iblk m c 4 t) (iblk m c 5 t) (ix2 n j)
      = ln (mid (inX m c t) (inY m c t) (inQ m c t) (inKV m c t) (inP m c t) n) j := by
  unfold bodyRun.sl.r_12
  rw [pay22_apply]
  exact congrArg (fun f => ln f j) (funext fun k => mid_apply m c t n k)

/-- The block's new tokens. -/
abbrev outT (c : Dev nD) (t : Fin cfg0.N) : Fin 576 → Fin 768 → EReal :=
  tokens (inX m c t) (inY m c t) (inQ m c t) (inKV m c t) (inP m c t) (in1 m c t) (in2 m c t)

/-- The block's tokens after the layer. -/
theorem tokens_apply (c : Dev nD) (t : Fin cfg0.N) (n : Fin 576) (j : Fin 768) :
    bodyRun.sl.r_24 c (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0
        (iblk m c 1 t) (iblk m c 2 t) (iblk m c 3 t) (iblk m c 4 t) (iblk m c 5 t) (iblk m c 6 t) (iblk m c 7 t) (ix2 n j)
      = outT m c t n j := by
  unfold bodyRun.sl.r_24 bodyRun.sl.r_14 bodyRun.sl.r_15 bodyRun.sl.r_16 bodyRun.sl.r_17 bodyRun.sl.r_18 bodyRun.sl.r_19 bodyRun.sl.r_22 bodyRun.sl.r_23
    bodyRun.sl.r_20 bodyRun.sl.r_21 bodyRun.sl.r_13
  rw [load_whole (ms0_6 t) (hs0_6 t) (iblk m c 6 t), load_whole (ms0_7 t) (hs0_7 t) (iblk m c 7 t)]
  unfold bodyRun.sl.cst_113
  refine (pay36_apply _ _ _ _ n j).trans ?_
  rw [mid_apply]
  refine congrArg₂ (· + ·) rfl (Finset.sum_congr rfl fun k _ => congrArg₂ (· * ·) (congrArg gelu ?_) rfl)
  rw [pay23_apply]
  exact Finset.sum_congr rfl fun i _ => congrArg₂ (· * ·) (hidden_apply m c t n i) rfl

/-- The block of the tokens. -/
theorem out_8_apply (c : Dev nD) (t : Fin cfg0.N) (n : Fin 576) (j : Fin 768) : out_8 m hH c t (ix3 0 n j) = outT m c t n j := by
  rw [← tokens_apply]
  unfold out_8 ptRun bodyRun; dsimp only
  unfold bodyRun.sl.H8_1
  canon_tiles x h
  have hx : x = ix3 0 n j := funext fun a => Fin.ext (by fin_cases a <;> simp [← h1, ← h2])
  rw [hx]
  exact pay37_apply _ _ _ _ _ _ _ _ _ _ _ n j

/-- The rows that the words name at point `t`. -/
def Rows (c : Dev nD) (t : Fin cfg0.N) (ids : Fin 64 → Fin 576) : Prop :=
  ∀ (k : Fin k0_t1_loop.trips) (k' : Fin 64), k.val = k'.val → (word (F := Ideal) (grid0.coords t) (iblk m c 0 t) k : BitVec 32).toNat = (ids k').val

/-- The pieces of the rows copied so far: the pieces of one row each. -/
theorem mem_rowPieces (i : grid0.Coords) (arg1 : Memref sig .tc .smem S4x128 .i32) (arg2 : Memref sig .tc .vmem S1x576x768 .f32) (X1 : BufTy.Contents (Elt Ideal) arg1.view.ty)
    (X2 : BufTy.Contents (Elt Ideal) arg2.view.ty) (H : ∀ k, k0_chk1 (wordAt (F := Ideal) i arg1 X1 k)) :
    ∀ (n : ℕ) (p : View.Piece (Elt Ideal) S64x768 .f32), p ∈ rowPieces i arg1 arg2 X1 X2 H n → ∃ k, p = rowPiece i arg1 arg2 X1 X2 H k
  | 0, p, h => by simp [rowPieces] at h
  | n + 1, p, h => by
    unfold rowPieces at h
    split at h
    · rcases List.mem_cons.mp h with h | h
      · exact ⟨_, h⟩
      · exact mem_rowPieces i arg1 arg2 X1 X2 H n p h
    · exact mem_rowPieces i arg1 arg2 X1 X2 H n p h

/-- The gathered rows, as the second scratch buffer holds them. -/
theorem rows_apply (c : Dev nD) (t : Fin cfg0.N) (ids : Fin 64 → Fin 576) (hids : Rows m c t ids) (k : Fin 64) (j : Fin 768) :
    bodyRun.sl.v433 (grid0.coords t) (ms0_0 t) (hs0_0 t) (ms0_1 t) (hs0_1 t) scM0_1 (iblk m c 0 t) (iblk m c 1 t) (words_at (grid0.coords t) (ms0_0 t) (hs0_0 t) (iblk m c 0 t) (hH c t)) (ix2 k j)
      = inY m c t (ids k) j := by
  unfold bodyRun.sl.v433
  rw [View.readCov_eq_canon']
  have hi : (Rect.unit (s := S64x768) ![0, 0] S64x768.size inb_S64x768_S64x768_0_0).toLoadRect.idx (ix2 k j) = ix2 k j :=
    funext fun a => Fin.ext (by fin_cases a <;> simp)
  beta_reduce
  rw [hi]
  refine (View.canon_apply_of_pieces (fun y : S64x768.Idx => (inY m c t (ids (y 0)) (y 1) : Elt Ideal .f32)) _ ?_ (ix2 k j) ?_).trans rfl
  · intro p hp x
    obtain ⟨k', rfl⟩ := mem_rowPieces _ _ _ _ _ _ _ _ hp
    obtain ⟨d, rfl⟩ : ∃ d : Fin 768, x = ix2 0 d := ⟨x 1, funext fun a => Fin.ext (by fin_cases a <;> simp)⟩
    have e3 : ∀ a, k0_off3 k' a = (![k'.val, 0] : Fin 2 → ℕ) a := fun a => congrFun (k0_off3_eq k') a
    have hw : (wordAt (F := Ideal) (grid0.coords t) (ms0_0 t) ((hs0_0 t).unread (iblk m c 0 t)) k' : BitVec 32).toNat
        = (ids ⟨k'.val, Nat.lt_of_lt_of_le k'.isLt k0_t1_abs.2.1⟩).val := by
      rw [wordAt_unread]; exact hids k' _ rfl
    unfold rowPiece
    dsimp only
    rw [pay38_apply, View.readAt_apply, Memref.IsWhole.read_unread]
    have e0 : ((Rect.unit (s := S64x768) (k0_off3 k') S1x768.size (k0_off3_inb k')).emb (ix2 0 d) 0 : Fin 64)
        = ⟨k'.val, Nat.lt_of_lt_of_le k'.isLt k0_t1_abs.2.1⟩ := Fin.ext (by
      show k0_off3 k' 0 + 1 * 0 = k'.val
      rw [e3]; rfl)
    have e1 : ((Rect.unit (s := S64x768) (k0_off3 k') S1x768.size (k0_off3_inb k')).emb (ix2 0 d) 1 : Fin 768) = d := Fin.ext (by
      show k0_off3 k' 1 + 1 * d.val = d.val
      rw [e3]; show 0 + 1 * d.val = d.val; omega)
    refine congrArg (iblk m c 1 t) (funext fun a => Fin.ext ?_)
    rw [e0, e1]
    fin_cases a
    · rfl
    · exact (Nat.add_zero _).trans hw
    · show 0 + 1 * d.val = d.val; omega
  · exact View.cover_of_tiledL (s := S64x768) _ S1x768.size (by sl_kernel_rfl) (ix2 k j)

/-- The mean of the gathered rows. -/
theorem kern_apply (c : Dev nD) (t : Fin cfg0.N) (ids : Fin 64 → Fin 576) (hids : Rows m c t ids) (j : Fin 768) :
    bodyRun.sl.r_25 (grid0.coords t) (ms0_0 t) (hs0_0 t) (ms0_1 t) (hs0_1 t) scM0_1 (iblk m c 0 t) (iblk m c 1 t) (words_at (grid0.coords t) (ms0_0 t) (hs0_0 t) (iblk m c 0 t) (hH c t)) (ix2 0 j)
      = kern (inY m c t) ids j := by
  unfold bodyRun.sl.r_25
  rw [pay39_apply]
  unfold kern
  refine congrArg₂ Ideal.div ?_ rfl
  exact Finset.sum_congr rfl fun k _ => rows_apply m hH c t ids hids k j

/-- The scores' numerators and denominators. -/
abbrev num (c : Dev nD) (t : Fin cfg0.N) : FVec Ideal S576x1 .f32 :=
  bodyRun.sl.r_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 scM0_1 (iblk m c 0 t) (iblk m c 1 t) (iblk m c 2 t) (iblk m c 3 t) (iblk m c 4 t) (iblk m c 5 t) (iblk m c 6 t) (iblk m c 7 t) (words_at (grid0.coords t) (ms0_0 t) (hs0_0 t) (iblk m c 0 t) (hH c t))
/-- The product of the two rows' lengths. -/
abbrev den (c : Dev nD) (t : Fin cfg0.N) : FVec Ideal S576x1 .f32 :=
  bodyRun.sl.r_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 scM0_1 (iblk m c 0 t) (iblk m c 1 t) (iblk m c 2 t) (iblk m c 3 t) (iblk m c 4 t) (iblk m c 5 t) (iblk m c 6 t) (iblk m c 7 t) (words_at (grid0.coords t) (ms0_0 t) (hs0_0 t) (iblk m c 0 t) (hH c t))

/-- The block's scores. -/
abbrev outP (c : Dev nD) (t : Fin cfg0.N) (ids : Fin 64 → Fin 576) (n : Fin 576) : EReal :=
  pos (outT m c t n) (kern (inY m c t) ids)

/-- A token's score. -/
theorem pos_apply (c : Dev nD) (t : Fin cfg0.N) (ids : Fin 64 → Fin 576) (hids : Rows m c t ids) (n : Fin 576) :
    k0_pay44 (F := Ideal) (num m hH c t) (den m hH c t) (ix2 n 0) = outP m c t ids n := by
  have hk : ∀ j, k0_pay39 (F := Ideal) (bodyRun.sl.v433 (grid0.coords t) (ms0_0 t) (hs0_0 t) (ms0_1 t) (hs0_1 t) scM0_1 (iblk m c 0 t) (iblk m c 1 t) (words_at (grid0.coords t) (ms0_0 t) (hs0_0 t) (iblk m c 0 t) (hH c t))) (ix2 0 j)
      = kern (inY m c t) ids j := kern_apply m hH c t ids hids
  rw [pay44_apply]
  have hn : num m hH c t (ix2 n 0) = ∑ j, outT m c t n j * kern (inY m c t) ids j := by
    unfold num bodyRun.sl.r_27
    rw [pay42_apply]
    refine Finset.sum_congr rfl fun j _ => ?_
    unfold bodyRun.sl.r_26
    rw [pay41_apply, hk]
    exact congrArg₂ (· * ·) (tokens_apply m c t n j) rfl
  have hd : den m hH c t (ix2 n 0) = norm (outT m c t n) * norm (kern (inY m c t) ids) := by
    unfold den bodyRun.sl.r_28
    rw [pay43_apply]
    exact congrArg₂ (· * ·) (congrArg norm (funext fun j => tokens_apply m c t n j)) (congrArg norm (funext fun j => kern_apply m hH c t ids hids j))
  rw [hn, hd]
  rfl

/-- The block's scores, as a column. -/
theorem scores (c : Dev nD) (t : Fin cfg0.N) (ids : Fin 64 → Fin 576) (hids : Rows m c t ids) :
    (fun n => k0_pay44 (F := Ideal) (num m hH c t) (den m hH c t) (ix2 n 0)) = outP m c t ids :=
  funext fun n => pos_apply m hH c t ids hids n

/-- The block of the marks. -/
theorem out_9_apply (c : Dev nD) (t : Fin cfg0.N) (ids : Fin 64 → Fin 576) (hids : Rows m c t ids) (r : Fin 72) (j : Fin 576) :
    out_9 m hH c t (ix3 0 r j) = if rank (outP m c t ids) j = r.val ∧ 0 < outP m c t ids j then (1 : EReal) else 0 := by
  have hs := scores m hH c t ids hids
  rw [← hs]
  unfold out_9 ptRun bodyRun; dsimp only
  canon_tiles x h
  have hx : x = ix3 0 r j := funext fun a => Fin.ext (by fin_cases a <;> simp [← h1, ← h2])
  rw [hx]
  exact pay1_apply (num m hH c t) (den m hH c t) r j

/-- The block of the chosen places. -/
theorem out_10_apply (c : Dev nD) (t : Fin cfg0.N) (ids : Fin 64 → Fin 576) (hids : Rows m c t ids) (r : Fin 72) (j : Fin 576)
    (h : rank (outP m c t ids) j = r.val) : out_10 m hH c t (ix3 0 r 0) = BitVec.ofNat 32 j.val := by
  rw [← scores m hH c t ids hids] at h
  unfold out_10 ptRun bodyRun; dsimp only
  canon_tiles x h'
  have hx : x = ix3 0 r 0 := funext fun a => Fin.ext (by fin_cases a <;> simp [← h'1])
  rw [hx]
  exact pay48_apply (num m hH c t) (den m hH c t) r j h

/-- The block of the scores. -/
theorem out_11_apply (c : Dev nD) (t : Fin cfg0.N) (ids : Fin 64 → Fin 576) (hids : Rows m c t ids) (j : Fin 576) :
    out_11 m hH c t (ix3 0 0 j) = outP m c t ids j := by
  rw [← pos_apply m hH c t ids hids j]
  unfold out_11 ptRun bodyRun; dsimp only
  canon_tiles x h
  have hx : x = ix3 0 0 j := funext fun a => Fin.ext (by fin_cases a <;> simp [← h2])
  rw [hx]
  exact pay46_apply (num m hH c t) (den m hH c t) j

/-- The block of the mean. -/
theorem out_12_apply (c : Dev nD) (t : Fin cfg0.N) (ids : Fin 64 → Fin 576) (hids : Rows m c t ids) (j : Fin 768) :
    out_12 m hH c t (ix3 0 0 j) = kern (inY m c t) ids j := by
  rw [← kern_apply m hH c t ids hids j]
  unfold out_12 ptRun bodyRun; dsimp only
  canon_tiles x h
  have hx : x = ix3 0 0 j := funext fun a => Fin.ext (by fin_cases a <;> simp [← h2])
  rw [hx]
  exact pay40_apply _ j

end Cert.KernelIdeal.Val

end
-- ==== Proof.Layer.lean ====
/- The layer's five results, image by image, as functions of its arguments. -/
module

public import proofs.«01_k».proof.Proof.Rank

@[expose] public section

set_option maxRecDepth 16384

noncomputable section

namespace Cert.Spec

open Idealize.ShloMosaic

/-- A table of `N` rows of lanes. -/
abbrev Rows768 (N : ℕ) := Fin N → Fin 768 → EReal

/-- The arguments: the search's and the base's images, the weights, the named base tokens. -/
structure Args where
  X : Fin 4 → Rows768 576
  Y : Fin 4 → Rows768 576
  Wq : Rows768 768
  Wkv : Rows768 1536
  Wp : Rows768 768
  W1 : Rows768 768
  W2 : Rows768 768
  ids : Fin 4 → Fin 64 → Fin 576

variable (A : Args)

/-- The search's tokens after the layer. -/
def Args.tok (b : Fin 4) : Rows768 576 := tokens (A.X b) (A.Y b) A.Wq A.Wkv A.Wp A.W1 A.W2

/-- The mean of an image's named base tokens. -/
def Args.mean (b : Fin 4) (c : Fin 768) : EReal := kern (A.Y b) (A.ids b) c

/-- A token's score. -/
def Args.score (b : Fin 4) (n : Fin 576) : EReal := pos (A.tok b n) (A.mean b)

/-- The token at place `r` of the falling scores. -/
def Args.best (b : Fin 4) (r : Fin 72) : Fin 576 :=
  sortedFrom (fun i j : Fin 576 => decide (A.score b j < A.score b i)) ⟨r.val, by omega⟩

/-- The token at place `r` has rank `r`. -/
theorem Args.rank_best (b : Fin 4) (r : Fin 72) : rank (A.score b) (A.best b r) = r.val := rank_sorted (A.score b) ⟨r.val, by omega⟩

/-- A token has rank `r` exactly when it is the one at place `r`. -/
theorem Args.rank_eq_iff (b : Fin 4) (r : Fin 72) (j : Fin 576) : rank (A.score b) j = r.val ↔ j = A.best b r :=
  ⟨fun h => rank_inj (h.trans (A.rank_best b r).symm), fun h => h ▸ A.rank_best b r⟩

/-- The mark of the token at place `r`: one, where its score is above zero. -/
def Args.mark (b : Fin 4) (r : Fin 72) (j : Fin 576) : EReal := if j = A.best b r ∧ 0 < A.score b j then 1 else 0

end Cert.Spec

end
-- ==== Proof.Blocks.lean ====
/- The blocks that the kernel reads, as reads of the arguments. -/
module

public import proofs.«01_k».proof.Proof.Outs
public import proofs.«01_k».proof.Proof.Layer
public import proofs.«01_k».proof.Proof.FrameKernelIdeal

@[expose] public section

set_option maxRecDepth 16384

noncomputable section

namespace Cert.KernelIdeal.Val

open Cert.KernelIdeal Cert.KernelIdeal.Gen Cert.KernelIdeal.Body Cert.Spec
open Idealize.ShloMosaic Idealize.ShloMosaic.TcCoe Idealize.ShloMosaic.Tactic
open Idealize.ShloMosaic.Pipeline (Dat)

variable (m : (ℓ : Loc nD τ sig) → Buf (Elt Ideal) ℓ) (hH : Hyps m)

/-- The block that a window takes at a point of the grid. -/
theorem idx : ∀ t : Fin cfg0.N, win0_1.index t = ![t.val, 0, 0] ∧ win0_2.index t = ![t.val, 0, 0]
    ∧ win0_3.index t = ![0, 0] ∧ win0_4.index t = ![0, 0] ∧ win0_5.index t = ![0, 0] ∧ win0_6.index t = ![0, 0]
    ∧ win0_7.index t = ![0, 0] ∧ win0_8.index t = ![t.val, 0, 0] ∧ win0_9.index t = ![t.val, 0, 0]
    ∧ win0_10.index t = ![t.val, 0, 0] ∧ win0_11.index t = ![t.val, 0, 0] ∧ win0_12.index t = ![t.val, 0, 0]
    ∧ (grid0.coords t 0).val = t.val ∧ t.val < 4 :=
  (by decide +kernel : ∀ t : Fin grid0.N, _)

variable (c : Dev nD)

/-- Image `b` of an array of rows. -/
abbrev img (X : FVec Ideal S4x576x768 .f32) (b : Fin 4) (n : Fin 576) (j : Fin 768) : EReal := X (ix3 b n j)

/-- The image of a point of the grid. -/
abbrev bOf (t : Fin cfg0.N) : Fin 4 := ⟨t.val, (idx t).2.2.2.2.2.2.2.2.2.2.2.2.2⟩

/-- The block of the search's tokens is its image. -/
theorem inX_eq (t : Fin cfg0.N) : inX m c t = img (m ((c : Thread nD τ).loc main_arg1)) (bOf t) := by
  funext n j
  unfold inX img
  blk_ext [iblk, V, idx t]

/-- The block of the base's tokens is its image. -/
theorem inY_eq (t : Fin cfg0.N) : inY m c t = img (m ((c : Thread nD τ).loc main_arg0)) (bOf t) := by
  funext n j
  unfold inY img
  blk_ext [iblk, V, idx t]

/-- The host hands over a transpose: the first weight. -/
theorem V_main_v0 : V m c main_v0 = transpose S768x768 [1, 0] (m ((c : Thread nD τ).loc main_arg9)) transposes_S768x768_S768x768_1_0 := by
  simp only [V, V0, hostOps0, List.flatten_cons, List.flatten_nil, List.append_nil, StableHlo.after_cons, StableHlo.after_nil]
  after_results_simp

/-- The block of the queries' weight is the weight. -/
theorem inQ_eq (t : Fin cfg0.N) (j k) : inQ m c t j k = (m ((c : Thread nD τ).loc main_arg9) : FVec Ideal S768x768 .f32) (ix2 j k) := by
  unfold inQ iblk
  rw [View.read_apply, cast_eq]
  refine (congrFun (V_main_v0 m c) _).trans ?_
  pointwise
  blk_ext [idx t]

/-- The second weight. -/
theorem V_main_v1 : V m c main_v1 = transpose S768x1536 [1, 0] (m ((c : Thread nD τ).loc main_arg10)) transposes_S1536x768_S768x1536_1_0 := by
  simp only [V, V0, hostOps0, List.flatten_cons, List.flatten_nil, List.append_nil, StableHlo.after_cons, StableHlo.after_nil]
  after_results_simp

/-- The block of the keys' and values' weight is the weight. -/
theorem inKV_eq (t : Fin cfg0.N) (j k) : inKV m c t j k = (m ((c : Thread nD τ).loc main_arg10) : FVec Ideal S1536x768 .f32) (ix2 j k) := by
  unfold inKV iblk
  rw [View.read_apply, cast_eq]
  refine (congrFun (V_main_v1 m c) _).trans ?_
  pointwise
  blk_ext [idx t]

/-- The third weight. -/
theorem V_main_v2 : V m c main_v2 = transpose S768x768 [1, 0] (m ((c : Thread nD τ).loc main_arg11)) transposes_S768x768_S768x768_1_0 := by
  simp only [V, V0, hostOps0, List.flatten_cons, List.flatten_nil, List.append_nil, StableHlo.after_cons, StableHlo.after_nil]
  after_results_simp

/-- The block of the projection's weight is the weight. -/
theorem inP_eq (t : Fin cfg0.N) (j k) : inP m c t j k = (m ((c : Thread nD τ).loc main_arg11) : FVec Ideal S768x768 .f32) (ix2 j k) := by
  unfold inP iblk
  rw [View.read_apply, cast_eq]
  refine (congrFun (V_main_v2 m c) _).trans ?_
  pointwise
  blk_ext [idx t]

/-- The fourth weight. -/
theorem V_main_v3 : V m c main_v3 = transpose S768x768 [1, 0] (m ((c : Thread nD τ).loc main_arg13)) transposes_S768x768_S768x768_1_0 := by
  simp only [V, V0, hostOps0, List.flatten_cons, List.flatten_nil, List.append_nil, StableHlo.after_cons, StableHlo.after_nil]
  after_results_simp

/-- The block of the network's first weight is the weight. -/
theorem in1_eq (t : Fin cfg0.N) (j k) : in1 m c t j k = (m ((c : Thread nD τ).loc main_arg13) : FVec Ideal S768x768 .f32) (ix2 j k) := by
  unfold in1 iblk
  rw [View.read_apply, cast_eq]
  refine (congrFun (V_main_v3 m c) _).trans ?_
  pointwise
  blk_ext [idx t]

/-- The fifth weight. -/
theorem V_main_v4 : V m c main_v4 = transpose S768x768 [1, 0] (m ((c : Thread nD τ).loc main_arg15)) transposes_S768x768_S768x768_1_0 := by
  simp only [V, V0, hostOps0, List.flatten_cons, List.flatten_nil, List.append_nil, StableHlo.after_cons, StableHlo.after_nil]
  after_results_simp

/-- The block of the network's second weight is the weight. -/
theorem in2_eq (t : Fin cfg0.N) (j k) : in2 m c t j k = (m ((c : Thread nD τ).loc main_arg15) : FVec Ideal S768x768 .f32) (ix2 j k) := by
  unfold in2 iblk
  rw [View.read_apply, cast_eq]
  refine (congrFun (V_main_v4 m c) _).trans ?_
  pointwise
  blk_ext [idx t]

end Cert.KernelIdeal.Val

end
-- ==== Proof.Arrays.lean ====
/- The arrays of the kernel's run, as the layer's formulas of the arguments. -/
module

public import proofs.«01_k».proof.Proof.Blocks

@[expose] public section

set_option maxRecDepth 16384

noncomputable section

namespace Cert.KernelIdeal.Val

open Cert.KernelIdeal Cert.KernelIdeal.Gen Cert.KernelIdeal.Body Cert.Spec
open Idealize.ShloMosaic Idealize.ShloMosaic.TcCoe Idealize.ShloMosaic.Tactic
open Idealize.ShloMosaic.Pipeline (Dat)

variable (m : (ℓ : Loc nD τ sig) → Buf (Elt Ideal) ℓ) (hH : Hyps m) (c : Dev nD)
  (hR : ∀ y : S4x128.Idx, (y 1).val < 64 → (m ((c : Thread nD τ).loc main_arg2) y : BitVec 32).toNat < 576)

/-- The layer's arguments, read from the kernel's. -/
def args : Args where
  X b n j := (m ((c : Thread nD τ).loc main_arg1) : FVec Ideal S4x576x768 .f32) (ix3 b n j)
  Y b n j := (m ((c : Thread nD τ).loc main_arg0) : FVec Ideal S4x576x768 .f32) (ix3 b n j)
  Wq j k := (m ((c : Thread nD τ).loc main_arg9) : FVec Ideal S768x768 .f32) (ix2 j k)
  Wkv j k := (m ((c : Thread nD τ).loc main_arg10) : FVec Ideal S1536x768 .f32) (ix2 j k)
  Wp j k := (m ((c : Thread nD τ).loc main_arg11) : FVec Ideal S768x768 .f32) (ix2 j k)
  W1 j k := (m ((c : Thread nD τ).loc main_arg13) : FVec Ideal S768x768 .f32) (ix2 j k)
  W2 j k := (m ((c : Thread nD τ).loc main_arg15) : FVec Ideal S768x768 .f32) (ix2 j k)
  ids b k := ⟨((m ((c : Thread nD τ).loc main_arg2) : IVec S4x128 32) (ix2 b ⟨k.val, by omega⟩)).toNat, hR _ k.isLt⟩

/-- The words that the loop reads at a point of the grid name the image's tokens. -/
theorem rows_at (t : Fin cfg0.N) : Rows m c t ((args m c hR).ids (bOf t)) := by
  intro k k' hk
  unfold word
  rw [ids_block]
  have hi : ∀ a, ((Rect.unit (s := S4x128) (k0_off1 (grid0.coords t) k) S1x1.size (k0_off1_inb (grid0.coords t) k)).toLoadRect.idx
      (Shape.Idx.first (numel1_S1x1.symm ▸ Nat.one_pos)) a).val = k0_off1 (grid0.coords t) k a := fun a => by
    fin_cases a <;> rfl
  have hx : (Rect.unit (s := S4x128) (k0_off1 (grid0.coords t) k) S1x1.size (k0_off1_inb (grid0.coords t) k)).toLoadRect.idx
      (Shape.Idx.first (numel1_S1x1.symm ▸ Nat.one_pos)) = ix2 (bOf t) ⟨k'.val, by omega⟩ := by
    funext a
    refine Fin.ext ((hi a).trans ?_)
    rw [k0_off1_eq]
    fin_cases a
    · exact (idx t).2.2.2.2.2.2.2.2.2.2.2.2.1
    · exact hk
  rw [hx]
  rfl

/-- A block's tokens are its image's. -/
theorem outT_eq (t : Fin cfg0.N) : outT m c t = (args m c hR).tok (bOf t) := by
  unfold outT Args.tok
  rw [inX_eq, inY_eq, funext fun j => funext (inQ_eq m c t j), funext fun j => funext (inKV_eq m c t j), funext fun j => funext (inP_eq m c t j),
    funext fun j => funext (in1_eq m c t j), funext fun j => funext (in2_eq m c t j)]
  rfl

/-- A block's mean is its image's. -/
theorem mean_eq (t : Fin cfg0.N) : kern (inY m c t) ((args m c hR).ids (bOf t)) = (args m c hR).mean (bOf t) := by
  rw [inY_eq]
  rfl

/-- A block's scores are its image's. -/
theorem outP_eq (t : Fin cfg0.N) : outP m c t ((args m c hR).ids (bOf t)) = (args m c hR).score (bOf t) := by
  unfold outP
  rw [mean_eq, outT_eq m c hR]
  rfl

/-- The array of the tokens at the end. -/
theorem final_8 : (dats m hH 0 c).arrAt 8 (cfgs 0).N = fun y : S4x576x768.Idx => (args m c hR).tok (y 0) (y 1) (y 2) := by
  refine (dats m hH 0 c).arrAt_eq_of_covers 8 _ (by decide +kernel) fun t _ y => ?_
  blk_simp
  rw [after0_8]
  obtain ⟨n, j, rfl⟩ : ∃ (n : Fin 576) (j : Fin 768), y = ix3 (0 : Fin 1) n j := ⟨y 1, y 2, by blk_ext⟩
  have he : (win0_8.blk t).view.emb (ix3 (0 : Fin 1) n j) = ix3 (bOf t) n j := by blk_ext [idx t]
  rw [he]
  refine (out_8_apply m hH c t n j).trans ?_
  rw [outT_eq m c hR t]
  rfl

/-- The array of the marks at the end. -/
theorem final_9 : (dats m hH 0 c).arrAt 9 (cfgs 0).N = fun y : S4x72x576.Idx => (args m c hR).mark (y 0) (y 1) (y 2) := by
  refine (dats m hH 0 c).arrAt_eq_of_covers 9 _ (by decide +kernel) fun t _ y => ?_
  blk_simp
  rw [after0_9]
  obtain ⟨r, j, rfl⟩ : ∃ (r : Fin 72) (j : Fin 576), y = ix3 (0 : Fin 1) r j := ⟨y 1, y 2, by blk_ext⟩
  have he : (win0_9.blk t).view.emb (ix3 (0 : Fin 1) r j) = ix3 (bOf t) r j := by blk_ext [idx t]
  rw [he]
  refine (out_9_apply m hH c t _ (rows_at m c hR t) r j).trans ?_
  rw [outP_eq m c hR t]
  show _ = (args m c hR).mark (bOf t) r j
  unfold Args.mark
  exact if_congr (and_congr_left' (Args.rank_eq_iff _ _ _ _)) rfl rfl

/-- The array of the chosen places at the end. -/
theorem final_10 : (dats m hH 0 c).arrAt 10 (cfgs 0).N
    = fun y : S4x72x1.Idx => BitVec.ofNat 32 ((args m c hR).best (y 0) (y 1)).val := by
  refine (dats m hH 0 c).arrAt_eq_of_covers 10 _ (by decide +kernel) fun t _ y => ?_
  blk_simp
  rw [after0_10]
  obtain ⟨r, rfl⟩ : ∃ (r : Fin 72), y = ix3 (0 : Fin 1) r (0 : Fin 1) := ⟨y 1, by blk_ext⟩
  have he : (win0_10.blk t).view.emb (ix3 (0 : Fin 1) r (0 : Fin 1)) = ix3 (bOf t) r 0 := by blk_ext [idx t]
  rw [he]
  refine out_10_apply m hH c t _ (rows_at m c hR t) r _ ?_
  rw [outP_eq m c hR t]
  exact Args.rank_best _ _ _

/-- The array of the scores at the end. -/
theorem final_11 : (dats m hH 0 c).arrAt 11 (cfgs 0).N = fun y : S4x1x576.Idx => (args m c hR).score (y 0) (y 2) := by
  refine (dats m hH 0 c).arrAt_eq_of_covers 11 _ (by decide +kernel) fun t _ y => ?_
  blk_simp
  rw [after0_11]
  obtain ⟨j, rfl⟩ : ∃ (j : Fin 576), y = ix3 (0 : Fin 1) (0 : Fin 1) j := ⟨y 2, by blk_ext⟩
  have he : (win0_11.blk t).view.emb (ix3 (0 : Fin 1) (0 : Fin 1) j) = ix3 (bOf t) 0 j := by blk_ext [idx t]
  rw [he]
  refine (out_11_apply m hH c t _ (rows_at m c hR t) j).trans ?_
  rw [outP_eq m c hR t]
  rfl

/-- The array of the means at the end. -/
theorem final_12 : (dats m hH 0 c).arrAt 12 (cfgs 0).N = fun y : S4x1x768.Idx => (args m c hR).mean (y 0) (y 2) := by
  refine (dats m hH 0 c).arrAt_eq_of_covers 12 _ (by decide +kernel) fun t _ y => ?_
  blk_simp
  rw [after0_12]
  obtain ⟨j, rfl⟩ : ∃ (j : Fin 768), y = ix3 (0 : Fin 1) (0 : Fin 1) j := ⟨y 2, by blk_ext⟩
  have he : (win0_12.blk t).view.emb (ix3 (0 : Fin 1) (0 : Fin 1) j) = ix3 (bOf t) 0 j := by blk_ext [idx t]
  rw [he]
  refine (out_12_apply m hH c t _ (rows_at m c hR t) j).trans ?_
  rw [mean_eq m c hR t]
  rfl

end Cert.KernelIdeal.Val

end
-- ==== Proof.Ends.lean ====
/- The kernel's run: its five results are the layer's. -/
module

public import proofs.«01_k».proof.Proof.Arrays

@[expose] public section

set_option maxRecDepth 16384

noncomputable section

namespace Cert.KernelIdeal.Val

open Cert.KernelIdeal Cert.KernelIdeal.Gen Cert.KernelIdeal.Body Cert.Spec
open Idealize.ShloMosaic Idealize.ShloMosaic.TcCoe Idealize.ShloMosaic.Tactic
open Idealize.ShloMosaic.Pipeline (Dat)

variable (m : (ℓ : Loc nD τ sig) → Buf (Elt Ideal) ℓ) (hH : Hyps m) (c : Dev nD)
  (hR : ∀ y : S4x128.Idx, (y 1).val < 64 → (m ((c : Thread nD τ).loc main_arg2) y : BitVec 32).toNat < 576)

/-- The windows are over arrays of their own. -/
theorem arr_inj : Function.Injective (Pipeline.arrRef spec0) := by decide

/-- The chosen places, reshaped by the host. -/
theorem tail_6 : Pipeline.afterTail₀ cfgs (dats m hH) 0 (V0 m) [hostOps1] c main_v6
    = fun y : S4x72.Idx => BitVec.ofNat 32 ((args m c hR).best (y 0) (y 1)).val := by
  have hw : Pipeline.withArrays (cfgs 0).spec c (V0 m c) (fun w => (dats m hH 0 c).arrAt w (cfgs 0).N) (Proc.tc.devRef main_v5_2) = _ :=
    (Pipeline.withArrays_arr spec0 arr_inj c _ _ 10).trans (final_10 m hH c hR)
  unfold Pipeline.afterTail₀
  simp only [hostOps1, List.flatten_cons, List.flatten_nil, List.append_nil, StableHlo.after_cons, StableHlo.after_nil]
  after_results_simp
  rw [hw]
  funext y
  pointwise

/-- The scores, reshaped by the host. -/
theorem tail_7 : Pipeline.afterTail₀ cfgs (dats m hH) 0 (V0 m) [hostOps1] c main_v7
    = fun y : S4x576.Idx => (args m c hR).score (y 0) (y 1) := by
  have hw : Pipeline.withArrays (cfgs 0).spec c (V0 m c) (fun w => (dats m hH 0 c).arrAt w (cfgs 0).N) (Proc.tc.devRef main_v5_3) = _ :=
    (Pipeline.withArrays_arr spec0 arr_inj c _ _ 11).trans (final_11 m hH c hR)
  unfold Pipeline.afterTail₀
  simp only [hostOps1, List.flatten_cons, List.flatten_nil, List.append_nil, StableHlo.after_cons, StableHlo.after_nil]
  after_results_simp
  rw [hw]
  funext y
  pointwise

/-- The means, reshaped by the host. -/
theorem tail_8 : Pipeline.afterTail₀ cfgs (dats m hH) 0 (V0 m) [hostOps1] c main_v8
    = fun y : S4x768x1.Idx => (args m c hR).mean (y 0) (y 1) := by
  have hw : Pipeline.withArrays (cfgs 0).spec c (V0 m c) (fun w => (dats m hH 0 c).arrAt w (cfgs 0).N) (Proc.tc.devRef main_v5_4) = _ :=
    (Pipeline.withArrays_arr spec0 arr_inj c _ _ 12).trans (final_12 m hH c hR)
  unfold Pipeline.afterTail₀
  simp only [hostOps1, List.flatten_cons, List.flatten_nil, List.append_nil, StableHlo.after_cons, StableHlo.after_nil]
  after_results_simp
  rw [hw]
  funext y
  pointwise

/-- The run: every result array is the layer's, every argument is unchanged. -/
theorem run (ρ : Dev nD → PrngReg)
    (hR : ∀ (c : Dev nD) (y : S4x128.Idx), (y 1).val < 64 → (m ((c : Thread nD τ).loc main_arg2) y : BitVec 32).toNat < 576) :
    θ_run defs (onTc (τ := τ) (main (F := Ideal))) ⟨m, fun _ => 0, ρ⟩ (fun r => ∀ c : Dev nD,
      (r.2.mem ((c.tc : Thread nD τ).loc main_v5_1) = fun y : S4x72x576.Idx => (args m c (hR c)).mark (y 0) (y 1) (y 2))
      ∧ (r.2.mem ((c.tc : Thread nD τ).loc main_v6) = fun y : S4x72.Idx => BitVec.ofNat 32 ((args m c (hR c)).best (y 0) (y 1)).val)
      ∧ (r.2.mem ((c.tc : Thread nD τ).loc main_v7) = fun y : S4x576.Idx => (args m c (hR c)).score (y 0) (y 1))
      ∧ (r.2.mem ((c.tc : Thread nD τ).loc main_v5_0) = fun y : S4x576x768.Idx => (args m c (hR c)).tok (y 0) (y 1) (y 2))
      ∧ (r.2.mem ((c.tc : Thread nD τ).loc main_v8) = fun y : S4x768x1.Idx => (args m c (hR c)).mean (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h.1 c).1 9).trans (final_9 m (hyps_of m hR) c (hR c)),
      ((h.1 c).2 main_v6 (Pipeline.mem_restRefs_of main_v6 (by decide) (by decide))).trans (tail_6 m (hyps_of m hR) c (hR c)),
      ((h.1 c).2 main_v7 (Pipeline.mem_restRefs_of main_v7 (by decide) (by decide))).trans (tail_7 m (hyps_of m hR) c (hR c)),
      ((h.1 c).1 8).trans (final_8 m (hyps_of m hR) c (hR c)),
      ((h.1 c).2 main_v8 (Pipeline.mem_restRefs_of main_v8 (by decide) (by decide))).trans (tail_8 m (hyps_of m hR) c (hR c)),
      h.2 c⟩)
    (θ_run_and (run_main m ρ (hyps_of m hR)) (unchanged m ρ (hyps_of m hR)))

end Cert.KernelIdeal.Val

end
-- ==== Proof.RefA.lean ====
/- The reference's attention, read at an index. -/
module

public import proofs.«01_k».proof.Proof.Layer
public import proofs.«01_k».proof.Proof.Gen.ReferenceIdeal.Read

@[expose] public section

set_option maxRecDepth 16384

noncomputable section

namespace Cert.ReferenceIdeal.Val

open Cert.ReferenceIdeal Cert.ReferenceIdeal.Gen Cert.ReferenceIdeal.Read Cert.Spec
open Idealize.ShloMosaic Idealize.ShloMosaic.Tactic

/-- Image `b` of an array. -/
abbrev img {N : ℕ} (x : FVec Ideal ⟨3, ![4, N, 768]⟩ .f32) (b : Fin 4) : Rows768 N := fun n c => x (ix3 b n c)

/-- A weight's table. -/
abbrev tab {N : ℕ} (x : FVec Ideal ⟨2, ![N, 768]⟩ .f32) : Rows768 N := fun j k => x (ix2 j k)

/-- The parameters that are one, and those that are zero. -/
abbrev one : FVec Ideal S768 .f32 := fun _ => 1
/-- The parameters that are zero. -/
abbrev zero : FVec Ideal S768 .f32 := fun _ => 0

variable (x0 x1 : FVec Ideal S4x576x768 .f32) (x9 : FVec Ideal S768x768 .f32) (x10 : FVec Ideal S1536x768 .f32) (x11 x13 x15 : FVec Ideal S768x768 .f32)

/-- The search's tokens, normalised. -/
theorem v23_apply (b : Fin 4) (n : Fin 576) (c : Fin 768) :
    val_main_v23 (F := Ideal) x1 one zero (ix3 b n c) = ln (img x1 b n) c := by
  pointwise [val_main_cst, val_main_v0, val_main_v1, val_main_cst_0, val_main_v2, val_main_v3, val_main_v4, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_v21, val_main_v22, val_main_v23]
  rfl

/-- The base's tokens, normalised. -/
theorem v47_apply (b : Fin 4) (n : Fin 576) (c : Fin 768) :
    val_main_v47 (F := Ideal) x0 one zero (ix3 b n c) = ln (img x0 b n) c := by
  pointwise [val_main_cst_4, val_main_v24, val_main_v25, val_main_cst_5, val_main_v26, val_main_v27, val_main_v28, val_main_v29, val_main_v30, val_main_cst_6, val_main_v31, val_main_v32, val_main_cst_7, val_main_v33, val_main_v34, val_main_v35, val_main_v36, val_main_cst_8, val_main_v37, val_main_v38, val_main_v39, val_main_v40, val_main_v41, val_main_v42, val_main_v43, val_main_v44, val_main_v45, val_main_v46, val_main_v47]
  rfl

/-- The queries, by heads. -/
theorem v51_apply (b : Fin 4) (h : Fin 8) (n : Fin 576) (d : Fin 96) :
    val_main_v51 (F := Ideal) x1 one zero x9 (ix4 b h n d) = proj (fun n => ln (img x1 b n)) (tab x9) n (lane h d) := by
  pointwise [val_main_v51, val_main_v50, val_main_v49, val_main_v48]
  exact Finset.sum_congr rfl fun c _ => congrArg (· * _) (v23_apply x1 b n c)

/-- The keys, by heads. -/
theorem v57_apply (b : Fin 4) (h : Fin 8) (n : Fin 576) (d : Fin 96) :
    val_main_v57 (F := Ideal) x0 one zero x10 (ix4 b h n d) = proj (fun n => ln (img x0 b n)) (tab x10) n (keyLane h d) := by
  pointwise [val_main_v57, val_main_v56, val_main_v55, val_main_v54, val_main_v53, val_main_v52]
  exact Finset.sum_congr rfl fun c _ => congrArg (· * _) (v47_apply x0 b n c)

/-- The values, by heads. -/
theorem v59_apply (b : Fin 4) (h : Fin 8) (n : Fin 576) (d : Fin 96) :
    val_main_v59 (F := Ideal) x0 one zero x10 (ix4 b h n d) = proj (fun n => ln (img x0 b n)) (tab x10) n (valLane (lane h d)) := by
  pointwise [val_main_v59, val_main_v58, val_main_v55, val_main_v54, val_main_v53, val_main_v52]
  exact Finset.sum_congr rfl fun c _ => congrArg₂ (· * ·) (v47_apply x0 b n c)
    (congrArg (fun j => x10 (ix2 j c)) (Fin.ext (Nat.add_assoc _ _ _)))

/-- The layer's queries. -/
abbrev qs (b : Fin 4) : Rows768 576 := proj (fun n => ln (img x1 b n)) (tab x9)

/-- The layer's keys and values. -/
abbrev kvs (b : Fin 4) : Fin 576 → Fin 1536 → EReal := proj (fun n => ln (img x0 b n)) (tab x10)

/-- The scaled products. -/
theorem v63_apply (b : Fin 4) (h : Fin 8) (n k : Fin 576) :
    val_main_v63 (F := Ideal) x0 x1 one zero one zero x9 x10 (ix4 b h n k) = score (qs x1 x9 b) (kvs x0 x10 b) h n k := by
  pointwise [val_main_v63, val_main_v62, val_main_cst_9, val_main_v61, val_main_v60]
  exact congrArg (· * _) (Finset.sum_congr rfl fun d _ => congrArg₂ (· * ·) (v51_apply x1 x9 b h n d) (v57_apply x0 x10 b h k d))

end Cert.ReferenceIdeal.Val

end
-- ==== Proof.RefB.lean ====
/- The reference's softmax and its weighted values, read at an index. -/
module

public import proofs.«01_k».proof.Proof.RefA

@[expose] public section

set_option maxRecDepth 16384

noncomputable section

namespace Cert.ReferenceIdeal.Val

open Cert.ReferenceIdeal Cert.ReferenceIdeal.Gen Cert.ReferenceIdeal.Read Cert.Spec
open Idealize.ShloMosaic Idealize.ShloMosaic.Tactic

variable (x0 x1 : FVec Ideal S4x576x768 .f32) (x9 : FVec Ideal S768x768 .f32) (x10 : FVec Ideal S1536x768 .f32) (x11 x13 x15 : FVec Ideal S768x768 .f32)

/-- A maximum from `a` is at least `a`. -/
theorem max_fold {ι : Type} (s : Finset ι) (a : EReal) (f : ι → EReal) : max a (s.fold max a f) = s.fold max a f :=
  max_eq_right ((Finset.le_fold_max a).mpr (Or.inl le_rfl))

/-- The maximum over the last axis. -/
theorem maxRow (y : FVec Ideal S4x8x576x576 .f32) (v : FVec Ideal S_ .f32) (b : Fin 4) (h : Fin 8) (n : Fin 576) :
    Host.reduce FloatOps.maximumf y v reducesTo_S4x8x576x576_S4x8x576_d3 h_S_ (ix3 b h n)
      = Finset.univ.fold max (v (Shape.Idx.first h_S_)) (fun k => y (ix4 b h n k)) := by
  refine (Host.reduce_eq_fold_single (FloatOps.maximumf (F := Ideal) (φ := .f32)) y v reducesTo_S4x8x576x576_S4x8x576_d3 (by decide) h_S_ _).trans ?_
  refine congrArg (fun f => Finset.fold max (v (Shape.Idx.first h_S_)) f Finset.univ) (funext fun k => ?_)
  exact congrArg y (funext fun a => Fin.ext (by match a with | ⟨0, _⟩ => rfl | ⟨1, _⟩ => rfl | ⟨2, _⟩ => rfl | ⟨3, _⟩ => rfl))

/-- The maximum of a row of scaled products. -/
theorem v64_apply (b : Fin 4) (h : Fin 8) (n : Fin 576) :
    val_main_v64 (F := Ideal) x0 x1 one zero one zero x9 x10 (ix3 b h n)
      = Finset.univ.fold max (Ideal.ofBits .f32 0xFF800000#32) (fun k => val_main_v63 (F := Ideal) x0 x1 one zero one zero x9 x10 (ix4 b h n k)) := by
  unfold val_main_v64
  generalize val_main_v63 (F := Ideal) x0 x1 one zero one zero x9 x10 = y
  generalize hc : (val_main_cst_10 (F := Ideal) : FVec Ideal S_ .f32) = v
  have hv : v (Shape.Idx.first h_S_) = Ideal.ofBits .f32 0xFF800000#32 := by rw [← hc]; rfl
  rw [← hv]
  exact maxRow y v b h n

/-- The maximum of a row of scaled products, as the formulas have it. -/
theorem v66_apply (b : Fin 4) (h : Fin 8) (n : Fin 576) :
    val_main_v66 (F := Ideal) x0 x1 one zero one zero x9 x10 (ix3 b h n)
      = Finset.univ.fold max (Ideal.ofBits .f32 0xFF800000#32) (score (qs x1 x9 b) (kvs x0 x10 b) h n) := by
  have h65 : val_main_v65 (F := Ideal) (ix3 b h n) = Ideal.ofBits .f32 0xFF800000#32 := by
    pointwise [val_main_v65, val_main_cst_11]
  have h64 := v64_apply x0 x1 x9 x10 b h n
  rw [funext (v63_apply x0 x1 x9 x10 b h n)] at h64
  have e : ∀ (w z : FVec Ideal S4x8x576 .f32) (i : S4x8x576.Idx), maximumf w z i = max (w i : EReal) (z i) := fun _ _ _ => rfl
  unfold val_main_v66
  revert h64 h65
  generalize val_main_v64 (F := Ideal) x0 x1 one zero one zero x9 x10 = z
  generalize val_main_v65 (F := Ideal) = w
  intro h65 h64
  refine (e w z (ix3 b h n)).trans ?_
  rw [h65, h64, max_fold]

/-- The exponentials. -/
theorem v70_apply (b : Fin 4) (h : Fin 8) (n k : Fin 576) :
    val_main_v70 (F := Ideal) x0 x1 one zero one zero x9 x10 (ix4 b h n k)
      = Ideal.exp (score (qs x1 x9 b) (kvs x0 x10 b) h n k
        - Finset.univ.fold max (Ideal.ofBits .f32 0xFF800000#32) (score (qs x1 x9 b) (kvs x0 x10 b) h n)) := by
  have h63 := v63_apply x0 x1 x9 x10 b h n k
  have h66 := v66_apply x0 x1 x9 x10 b h n
  unfold val_main_v70 val_main_v69 val_main_v68 val_main_v67
  revert h63 h66
  generalize val_main_v63 (F := Ideal) x0 x1 one zero one zero x9 x10 = y
  generalize val_main_v66 (F := Ideal) x0 x1 one zero one zero x9 x10 = z
  intro h63 h66
  pointwise
  rw [h63, h66]

/-- The attention's weights. -/
theorem v74_apply (b : Fin 4) (h : Fin 8) (n k : Fin 576) :
    val_main_v74 (F := Ideal) x0 x1 one zero one zero x9 x10 (ix4 b h n k) = soft (score (qs x1 x9 b) (kvs x0 x10 b) h n) k := by
  have h70 := v70_apply x0 x1 x9 x10 b h n
  unfold val_main_v74 val_main_v73 val_main_v72 val_main_v71
  revert h70
  generalize val_main_v70 (F := Ideal) x0 x1 one zero one zero x9 x10 = y
  intro h70
  pointwise [val_main_cst_12]
  unfold soft
  exact congrArg₂ Ideal.div (h70 k) (Finset.sum_congr rfl fun k _ => h70 k)

/-- The attention's result. -/
theorem v77_apply (b : Fin 4) (n : Fin 576) (c : Fin 768) :
    val_main_v77 (F := Ideal) x0 x1 one zero one zero x9 x10 (ix3 b n c) = heads (qs x1 x9 b) (kvs x0 x10 b) n c := by
  have h74 := fun h k => v74_apply x0 x1 x9 x10 b h n k
  have h59 := fun h k d => v59_apply x0 x10 b h k d
  unfold val_main_v77 val_main_v76 val_main_v75
  revert h74 h59
  generalize val_main_v74 (F := Ideal) x0 x1 one zero one zero x9 x10 = y
  generalize val_main_v59 (F := Ideal) x0 one zero x10 = z
  intro h74 h59
  pointwise
  exact Finset.sum_congr rfl fun k _ => congrArg₂ (· * ·) (h74 _ k) (h59 _ k _)

/-- The tokens after the attention. -/
theorem v83_apply (b : Fin 4) (n : Fin 576) (j : Fin 768) :
    val_main_v83 (F := Ideal) x0 x1 one zero one zero x9 x10 x11 zero (ix3 b n j)
      = mid (img x1 b) (img x0 b) (tab x9) (tab x10) (tab x11) n j := by
  have h77 := fun c => v77_apply x0 x1 x9 x10 b n c
  unfold val_main_v83 val_main_v82 val_main_v81 val_main_v80 val_main_v79 val_main_v78
  revert h77
  generalize val_main_v77 (F := Ideal) x0 x1 one zero one zero x9 x10 = y
  intro h77
  pointwise
  rw [show mid (img x1 b) (img x0 b) (tab x9) (tab x10) (tab x11) n j
    = x1 (ix3 b n j) + ∑ c, heads (qs x1 x9 b) (kvs x0 x10 b) n c * x11 (ix2 j c) from rfl]
  exact congrArg (_ + ·) (Finset.sum_congr rfl fun c _ => congrArg (· * _) (h77 c))

end Cert.ReferenceIdeal.Val

end
-- ==== Proof.RefC.lean ====
/- The reference's network, read at an index. -/
module

public import proofs.«01_k».proof.Proof.RefB

@[expose] public section

set_option maxRecDepth 16384

noncomputable section

namespace Cert.ReferenceIdeal.Val

open Cert.ReferenceIdeal Cert.ReferenceIdeal.Gen Cert.ReferenceIdeal.Read Cert.Spec
open Idealize.ShloMosaic Idealize.ShloMosaic.Tactic

variable (x0 x1 : FVec Ideal S4x576x768 .f32) (x9 : FVec Ideal S768x768 .f32) (x10 : FVec Ideal S1536x768 .f32) (x11 x13 x15 : FVec Ideal S768x768 .f32)

/-- The tokens after the attention, normalised. -/
theorem v107_apply (b : Fin 4) (n : Fin 576) (j : Fin 768) :
    val_main_v107 (F := Ideal) x0 x1 one zero one zero one zero x9 x10 x11 zero (ix3 b n j)
      = ln (mid (img x1 b) (img x0 b) (tab x9) (tab x10) (tab x11) n) j := by
  refine Eq.trans ?_ (congrArg (fun f => ln f j) (funext (v83_apply x0 x1 x9 x10 x11 b n)))
  unfold val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84
  generalize val_main_v83 (F := Ideal) x0 x1 one zero one zero x9 x10 x11 zero = y
  pointwise [val_main_cst_13, val_main_cst_14, val_main_cst_15, val_main_cst_16, val_main_cst_17]
  rfl

/-- The network's first product. -/
theorem v112_apply (b : Fin 4) (n : Fin 576) (j : Fin 768) :
    val_main_v112 (F := Ideal) x0 x1 one zero one zero one zero x9 x10 x11 zero x13 zero (ix3 b n j)
      = proj (fun n => ln (mid (img x1 b) (img x0 b) (tab x9) (tab x10) (tab x11) n)) (tab x13) n j := by
  have h := fun c => v107_apply x0 x1 x9 x10 x11 b n c
  unfold val_main_v112 val_main_v111 val_main_v110 val_main_v109 val_main_v108
  revert h
  generalize val_main_v107 (F := Ideal) x0 x1 one zero one zero one zero x9 x10 x11 zero = y
  intro h
  pointwise
  exact Finset.sum_congr rfl fun c _ => congrArg (· * _) (h c)

end Cert.ReferenceIdeal.Val

end
-- ==== Proof.RefD.lean ====
/- The reference's gelu and its tokens after the layer, read at an index. -/
module

public import proofs.«01_k».proof.Proof.RefC

@[expose] public section

set_option maxRecDepth 16384

noncomputable section

namespace Cert.ReferenceIdeal.Val

open Cert.ReferenceIdeal Cert.ReferenceIdeal.Gen Cert.ReferenceIdeal.Read Cert.Spec
open Idealize.ShloMosaic Idealize.ShloMosaic.Tactic

variable (x0 x1 : FVec Ideal S4x576x768 .f32) (x9 : FVec Ideal S768x768 .f32) (x10 : FVec Ideal S1536x768 .f32) (x11 x13 x15 : FVec Ideal S768x768 .f32)

/-- The gelu of the first product. -/
theorem v215_apply (b : Fin 4) (n : Fin 576) (j : Fin 768) :
    val_main_v215 (F := Ideal) x0 x1 one zero one zero one zero x9 x10 x11 zero x13 zero (ix3 b n j)
      = gelu (proj (fun n => ln (mid (img x1 b) (img x0 b) (tab x9) (tab x10) (tab x11) n)) (tab x13) n j) := by
  refine Eq.trans ?_ (congrArg gelu (v112_apply x0 x1 x9 x10 x11 x13 b n j))
  have hz : ∀ x, val_main_v117 (F := Ideal) x0 x1 one zero one zero one zero x9 x10 x11 zero x13 zero x
      = -(val_main_v112 (F := Ideal) x0 x1 one zero one zero one zero x9 x10 x11 zero x13 zero x) * Ideal.ofBits .f32 0x3F3504F3#32 := fun x => by
    unfold val_main_v117 val_main_v116 val_main_v115
    generalize val_main_v112 (F := Ideal) x0 x1 one zero one zero one zero x9 x10 x11 zero x13 zero = y
    pointwise [val_main_cst_19]
  unfold val_main_v215 val_main_v114 val_main_v113 val_main_v214 val_main_v213 val_main_v212 val_main_v211 val_main_v210 val_main_v209 val_main_v208 val_main_v207 val_main_v206 val_main_v205 val_main_v204 val_main_v203 val_main_v202 val_main_v201 val_main_v200 val_main_v199 val_main_v198 val_main_v197 val_main_v196 val_main_v195 val_main_v194 val_main_v193 val_main_v192 val_main_v191 val_main_v190 val_main_v189 val_main_v188 val_main_v187 val_main_v186 val_main_v185 val_main_v184 val_main_v183 val_main_v182 val_main_call1_v1 val_main_call1_v0 val_main_v181 val_main_v180 val_main_v179 val_main_v178 val_main_v177 val_main_v176 val_main_v175 val_main_v174 val_main_v173 val_main_v172 val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118
  revert hz
  generalize val_main_v112 (F := Ideal) x0 x1 one zero one zero one zero x9 x10 x11 zero x13 zero = y
  generalize val_main_v117 (F := Ideal) x0 x1 one zero one zero one zero x9 x10 x11 zero x13 zero = z
  intro hz
  pointwise [val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, val_main_cst_40, val_main_cst_41, val_main_cst_42, val_main_cst_43, val_main_cst_44, val_main_cst_45, val_main_cst_46, val_main_cst_47, val_main_cst_48, val_main_cst_49, val_main_cst_50, val_main_cst_51, id]
  unfold gelu erfc tail polySmall polyNear polyFar
  rw [← hz]
  rfl

/-- The tokens after the layer. -/
theorem v221_apply (b : Fin 4) (n : Fin 576) (j : Fin 768) :
    val_main_v221 (F := Ideal) x0 x1 one zero one zero one zero x9 x10 x11 zero x13 zero x15 zero (ix3 b n j)
      = tokens (img x1 b) (img x0 b) (tab x9) (tab x10) (tab x11) (tab x13) (tab x15) n j := by
  have h83 := v83_apply x0 x1 x9 x10 x11 b n j
  have h := fun c => v215_apply x0 x1 x9 x10 x11 x13 b n c
  unfold val_main_v221 val_main_v220 val_main_v219 val_main_v218 val_main_v217 val_main_v216
  revert h h83
  generalize val_main_v83 (F := Ideal) x0 x1 one zero one zero x9 x10 x11 zero = u
  generalize val_main_v215 (F := Ideal) x0 x1 one zero one zero one zero x9 x10 x11 zero x13 zero = y
  intro h83 h
  pointwise
  exact congrArg₂ (· + ·) h83 (Finset.sum_congr rfl fun c _ => congrArg (· * _) (h c))

end Cert.ReferenceIdeal.Val

end
-- ==== Proof.RefK.lean ====
/- The reference's mean of the named base tokens, read at an index. -/
module

public import proofs.«01_k».proof.Proof.RefA

@[expose] public section

set_option maxRecDepth 16384

noncomputable section

namespace Cert.ReferenceIdeal.Val

open Cert.ReferenceIdeal Cert.ReferenceIdeal.Gen Cert.ReferenceIdeal.Read Cert.Spec
open Idealize.ShloMosaic Idealize.ShloMosaic.Tactic

variable (x0 : FVec Ideal S4x576x768 .f32) (x2 : IVec S4x128 32)
  (hR : ∀ y : S4x128.Idx, (y 1).val < 64 → (x2 y).toNat < 576)

/-- A word below `576` read as a signed number. -/
theorem toInt_small {w : BitVec 32} (h : w.toNat < 576) : w.toInt = w.toNat := by
  rw [BitVec.toInt_eq_toNat_cond, if_pos (by omega)]

/-- Such a word is at least zero. -/
theorem sge_zero {w : BitVec 32} (h : w.toNat < 576) : IntOp.cmpi CmpIPredicate.sge w 0#32 = 1#1 := by
  have := toInt_small h
  simp only [IntOp.cmpi, BitVec.sle, this]
  simp

/-- Such a word is not negative. -/
theorem slt_zero {w : BitVec 32} (h : w.toNat < 576) : IntOp.cmpi CmpIPredicate.slt w 0#32 = 0#1 := by
  have := toInt_small h
  simp only [IntOp.cmpi, BitVec.slt, this]
  rw [decide_eq_false (by simp)]
  rfl

/-- Such a word is at most 575. -/
theorem sle_575 {w : BitVec 32} (h : w.toNat < 576) : IntOp.cmpi CmpIPredicate.sle w 575#32 = 1#1 := by
  have := toInt_small h
  simp only [IntOp.cmpi, BitVec.sle, this]
  have : (w.toNat : ℤ) ≤ (575#32).toInt := by
    have : (575#32).toInt = 575 := by decide
    omega
  rw [decide_eq_true this]
  rfl

/-- The float word of `64`. -/
theorem ofBits_64 : Ideal.ofBits .f32 0x42800000#32 = ((64 : ℝ) : EReal) := by
  simp [Ideal.ofBits, Ideal.ieee, -EReal.coe_mul]; norm_num

include hR

/-- Every named token counts. -/
theorem v224_apply (b : Fin 4) (m : Fin 64) : val_main_v224 (F := Ideal) x2 (ix2 b m) = 1#1 := by
  pointwise [val_main_v224, val_main_v223, val_main_v222, val_main_c]
  exact sge_zero (hR _ m.isLt)

/-- The words, kept as they are. -/
theorem v225_apply (b : Fin 4) (m : Fin 64) : val_main_v225 (F := Ideal) x2 (ix2 b m) = x2 (ix2 b ⟨m.val, by omega⟩) := by
  unfold val_main_v225
  have h := v224_apply x2 hR b m
  revert h
  generalize val_main_v224 (F := Ideal) x2 = y
  intro h
  pointwise [val_main_v222]
  rw [h]; rfl

/-- The words, with no wrap from the end. -/
theorem call5_v4_apply (b : Fin 4) (m : Fin 64) (c : Fin 768) : val_main_call5_v4 (F := Ideal) x2 (ix3 b m c) = x2 (ix2 b ⟨m.val, by omega⟩) := by
  have h := v225_apply x2 hR b m
  unfold val_main_call5_v4 val_main_call5_v3 val_main_call5_v2 val_main_call5_v1 val_main_call5_v0 val_main_v227 val_main_v226
  revert h
  generalize val_main_v225 (F := Ideal) x2 = y
  intro h
  pointwise [val_main_call5_c, val_main_call5_c_0]
  rw [h, slt_zero (hR _ m.isLt)]; rfl

/-- The words, with a unit axis after them. -/
theorem call5_v5_apply (b : Fin 4) (m : Fin 64) (c : Fin 768) : val_main_call5_v5 (F := Ideal) x2 (ix4 b m c 0) = x2 (ix2 b ⟨m.val, by omega⟩) := by
  have h := call5_v4_apply x2 hR b m c
  unfold val_main_call5_v5
  revert h
  generalize val_main_call5_v4 (F := Ideal) x2 = y
  intro h
  pointwise
  exact h

/-- The words are in range. -/
theorem call5_v11_apply (b : Fin 4) (m : Fin 64) (c : Fin 768) : val_main_call5_v11 (F := Ideal) x2 (ix4 b m c 0) = 1#1 := by
  have h := call5_v5_apply x2 hR b m c
  unfold val_main_call5_v11 val_main_call5_v10 val_main_call5_v9 val_main_call5_v8 val_main_call5_v7 val_main_call5_v6
  revert h
  generalize val_main_call5_v5 (F := Ideal) x2 = y
  intro h
  pointwise [val_main_call5_c_1, val_main_call5_c_2]
  rw [h, sge_zero (hR _ m.isLt), sle_575 (hR _ m.isLt)]; rfl

/-- The words are in range, without the unit axis. -/
theorem call5_v12_apply (b : Fin 4) (m : Fin 64) (c : Fin 768) : val_main_call5_v12 (F := Ideal) x2 (ix3 b m c) = 1#1 := by
  have h := call5_v11_apply x2 hR b m c
  unfold val_main_call5_v12
  revert h
  generalize val_main_call5_v11 (F := Ideal) x2 = y
  intro h
  pointwise [val_main_call5_c_3]
  rw [Finset.univ_unique, Finset.fold_singleton]
  exact (congrArg (fun z => IntOp.andi z 1#1) h).trans (by decide)

/-- The gathered rows. -/
theorem call5_v13_apply (b : Fin 4) (m : Fin 64) (c : Fin 768) : val_main_call5_v13 (F := Ideal) x0 x2 (ix3 b m c)
    = x0 (ix3 b ⟨(x2 (ix2 b ⟨m.val, by omega⟩)).toNat, hR _ m.isLt⟩ c) := by
  have h := call5_v5_apply x2 hR b m c
  unfold val_main_call5_v13
  revert h
  generalize val_main_call5_v5 (F := Ideal) x2 = y
  intro h
  unfold Host.gather
  refine congrArg x0 (funext fun a => Fin.ext ?_)
  unfold GatherDims.operandIdx
  match a with
  | ⟨0, _⟩ =>
    show GatherDims.start _ _ _ 0 + GatherDims.batchCoord _ _ 0 + GatherDims.offCoord _ _ 0 = b.val
    rw [GatherDims.offCoord_eq_zero _ _ _ (by decide)]
    unfold GatherDims.start GatherDims.batchCoord
    rw [dif_neg (by decide), dif_pos (by decide), Nat.zero_add, Nat.add_zero]
    rfl
  | ⟨1, _⟩ =>
    show GatherDims.start _ _ _ 1 + GatherDims.batchCoord _ _ 1 + GatherDims.offCoord _ _ 1 = _
    rw [GatherDims.offCoord_eq_zero _ _ _ (by decide), GatherDims.batchCoord_eq_zero _ _ _ (by decide)]
    unfold GatherDims.start
    rw [dif_pos (by decide)]
    have hsi : GatherDims.siIdx gather_S4x576x768_S4x64x768x1_S4x64x768_n_1_02_02_1_3_111 (ix3 b m c) ⟨List.idxOf (1 : Fin 3) [1], by decide⟩ = ix4 b m c 0 := by
      funext a'
      match a' with
      | ⟨0, _⟩ => rfl
      | ⟨1, _⟩ => rfl
      | ⟨2, _⟩ => rfl
      | ⟨3, _⟩ => rfl
    have hw := hR (ix2 b ⟨m.val, by omega⟩) m.isLt
    refine (congrArg (fun w : BitVec 32 => min w.toInt.toNat 575) ((congrArg y hsi).trans h)).trans ?_
    show min (x2 _).toInt.toNat 575 = (x2 _).toNat
    rw [toInt_small hw]
    omega
  | ⟨2, _⟩ =>
    show GatherDims.start _ _ _ 2 + GatherDims.batchCoord _ _ 2 + GatherDims.offCoord _ _ 2 = c.val
    rw [GatherDims.offCoord_eq_zero _ _ _ (by decide)]
    unfold GatherDims.start GatherDims.batchCoord
    rw [dif_neg (by decide), dif_pos (by decide), Nat.zero_add, Nat.add_zero]
    rfl

/-- The rows taken. -/
theorem v228_apply (b : Fin 4) (m : Fin 64) (c : Fin 768) : val_main_v228 (F := Ideal) x0 x2 (ix3 b m c)
    = x0 (ix3 b ⟨(x2 (ix2 b ⟨m.val, by omega⟩)).toNat, hR _ m.isLt⟩ c) := by
  have h := call5_v12_apply x2 hR b m c
  have h2 := call5_v13_apply x0 x2 hR b m c
  unfold val_main_v228
  revert h h2
  generalize val_main_call5_v12 (F := Ideal) x2 = y
  generalize val_main_call5_v13 (F := Ideal) x0 x2 = z
  intro h h2
  pointwise [val_main_call5_v14, val_main_call5_cst]
  rw [h, h2]; rfl

/-- The rows taken, times their mask. -/
theorem v232_apply (b : Fin 4) (m : Fin 64) (c : Fin 768) : val_main_v232 (F := Ideal) x0 x2 (ix3 b m c)
    = x0 (ix3 b ⟨(x2 (ix2 b ⟨m.val, by omega⟩)).toNat, hR _ m.isLt⟩ c) := by
  have h := v228_apply x0 x2 hR b m c
  have h2 := v224_apply x2 hR b m
  unfold val_main_v232 val_main_v231 val_main_v230 val_main_v229
  revert h h2
  generalize val_main_v228 (F := Ideal) x0 x2 = y
  generalize val_main_v224 (F := Ideal) x2 = z
  intro h h2
  pointwise
  rw [h, h2]
  have : (FloatOps.uitofp FTy.f32 (1#1) : Ideal .f32) = 1 := by
    show (((1#1 : BitVec 1).toNat : ℝ) : EReal) = 1
    simp
  rw [this, mul_one]

/-- The count of the named tokens is 64. -/
theorem v234_apply (b : Fin 4) : val_main_v234 (F := Ideal) x2 (ix1 b) = 64#32 := by
  have h := v224_apply x2 hR b
  unfold val_main_v234 val_main_v233
  revert h
  generalize val_main_v224 (F := Ideal) x2 = z
  intro h
  pointwise [val_main_c_53]
  have hz : (fun x => BitVec.setWidth 32 (z (ix2 b x))) = fun _ : Fin 64 => 1#32 := funext fun x => by rw [h x]; rfl
  rw [hz]
  decide +kernel

/-- There are named tokens. -/
theorem v236_apply (b : Fin 4) : val_main_v236 (F := Ideal) x2 (ix1 b) = 1#1 := by
  have h := v234_apply x2 hR b
  unfold val_main_v236 val_main_v235
  revert h
  generalize val_main_v234 (F := Ideal) x2 = z
  intro h
  pointwise [val_main_c_54]
  rw [h]; rfl

/-- The mean's divisor is 64. -/
theorem v242_apply (b : Fin 4) (c : Fin 768) : val_main_v242 (F := Ideal) x2 (ix2 b c) = Ideal.ofBits .f32 0x42800000#32 := by
  have h := v234_apply x2 hR b
  unfold val_main_v242 val_main_v241 val_main_v240 val_main_v239 val_main_v238
  revert h
  generalize val_main_v234 (F := Ideal) x2 = z
  intro h
  pointwise [val_main_c_56]
  rw [h, ofBits_64]
  show (((IntOp.maxsi 64#32 1#32 : BitVec 32).toInt : ℝ) : EReal) = _
  rw [show (IntOp.maxsi 64#32 1#32 : BitVec 32).toInt = 64 by decide]
  norm_num

/-- The rows' sum. -/
theorem v237_apply (b : Fin 4) (c : Fin 768) : val_main_v237 (F := Ideal) x0 x2 (ix2 b c)
    = ∑ m : Fin 64, x0 (ix3 b ⟨(x2 (ix2 b ⟨m.val, by omega⟩)).toNat, hR _ m.isLt⟩ c) := by
  have h := fun m => v232_apply x0 x2 hR b m c
  unfold val_main_v237
  revert h
  generalize val_main_v232 (F := Ideal) x0 x2 = z
  intro h
  pointwise [val_main_cst_55]
  exact Finset.sum_congr rfl fun m _ => h m

/-- The mean of the named base tokens. -/
theorem v248_apply (b : Fin 4) (c : Fin 768) : val_main_v248 (F := Ideal) x0 x2 (ix2 b c)
    = kern (img x0 b) (fun m => ⟨(x2 (ix2 b ⟨m.val, by omega⟩)).toNat, hR _ m.isLt⟩) c := by
  have h := v236_apply x2 hR b
  have h2 := v237_apply x0 x2 hR b c
  have h3 := v242_apply x2 hR b c
  unfold val_main_v248 val_main_call6_v0 val_main_v247 val_main_v243
  revert h h2 h3
  generalize val_main_v236 (F := Ideal) x2 = w
  generalize val_main_v237 (F := Ideal) x0 x2 = y
  generalize val_main_v242 (F := Ideal) x2 = z
  generalize val_main_v246 (F := Ideal) x0 x2 = u
  intro h h2 h3
  pointwise
  rw [h, h2, h3]; rfl

end Cert.ReferenceIdeal.Val

end
-- ==== Proof.RefP.lean ====
/- The reference's scores, its choice of tokens and their marks, read at an index. -/
module

public import proofs.«01_k».proof.Proof.RefD
public import proofs.«01_k».proof.Proof.RefK

@[expose] public section

set_option maxRecDepth 16384

noncomputable section

namespace Cert.Spec

open Idealize.ShloMosaic

/-- The float word of `2`. -/
theorem ofBits_2 : Ideal.ofBits .f32 0x40000000#32 = ((2 : ℝ) : EReal) := by
  simp [Ideal.ofBits, Ideal.ieee, -EReal.coe_mul]; norm_num

/-- The floor of a length is positive. -/
theorem floor_pos : 0 < Ideal.ofBits .f32 0x322BCC77#32 := by
  simp [Ideal.ofBits, Ideal.ieee, -EReal.coe_mul]

/-- A length is positive. -/
theorem norm_pos (f : Fin 768 → EReal) : 0 < norm f := lt_of_lt_of_le floor_pos (le_max_right _ _)

/-- The inverse of a positive number is real. -/
theorem inv_real {D : EReal} (h : 0 < D) : ∃ r : ℝ, D⁻¹ = r := by
  induction D with
  | bot => exact absurd h (by simp)
  | coe x => exact ⟨x⁻¹, (EReal.coe_inv x).symm⟩
  | top => exact ⟨0, by simp⟩

/-- A square is not negative. -/
theorem sq_nonneg (x : EReal) : 0 ≤ x * x := by
  induction x with
  | bot => simp
  | coe x => exact_mod_cast mul_self_nonneg x
  | top => simp

/-- A row with an infinite square has infinite length. -/
theorem norm_top {f : Fin 768 → EReal} {c : Fin 768} (h : f c * f c = ⊤) : norm f = ⊤ := by
  have hs : ∑ c, f c * f c = ⊤ :=
    le_antisymm le_top (h ▸ Finset.single_le_sum (f := fun c => f c * f c) (fun i _ => sq_nonneg (f i)) (Finset.mem_univ c))
  unfold norm
  rw [hs]
  exact max_eq_left le_top

/-- A number with a finite square is real. -/
theorem real_of_sq {x : EReal} (h : x * x ≠ ⊤) : ∃ r : ℝ, x = r := by
  induction x with
  | bot => exact absurd (by simp) h
  | coe x => exact ⟨x, rfl⟩
  | top => exact absurd (by simp) h

/-- A sum of real numbers is real. -/
theorem sum_real (g : Fin 768 → ℝ) : ∑ c, (g c : EReal) = ((∑ c, g c : ℝ) : EReal) := by
  induction (Finset.univ : Finset (Fin 768)) using Finset.induction_on with
  | empty => simp
  | insert a s ha ih => rw [Finset.sum_insert ha, Finset.sum_insert ha, ih, EReal.coe_add]

/-- A real number over a positive one is real. -/
theorem div_real {a D : EReal} {r s : ℝ} (h : 0 < D) (ha : a = r) (hD : D⁻¹ = s) : Ideal.div a D = (r * s : ℝ) := by
  unfold Ideal.div
  rw [if_neg h.ne', ha, hD, EReal.coe_mul]

/-- The cosine is a real number whatever the rows are: an infinite entry makes its row's length infinite. -/
theorem cos_real (f k : Fin 768 → EReal) : ∃ r : ℝ, Ideal.div (∑ c, f c * k c) (norm f * norm k) = r := by
  have hD : 0 < norm f * norm k := EReal.mul_pos (norm_pos f) (norm_pos k)
  by_cases hf : ∃ c, f c * f c = ⊤
  · obtain ⟨c, hc⟩ := hf
    refine ⟨0, ?_⟩
    unfold Ideal.div
    rw [if_neg hD.ne', norm_top hc, EReal.top_mul_of_pos (norm_pos k)]
    simp
  by_cases hk : ∃ c, k c * k c = ⊤
  · obtain ⟨c, hc⟩ := hk
    refine ⟨0, ?_⟩
    unfold Ideal.div
    rw [if_neg hD.ne', norm_top hc, EReal.mul_top_of_pos (norm_pos f)]
    simp
  have hf' : ∀ c, ∃ r : ℝ, f c = r := fun c => real_of_sq fun h => hf ⟨c, h⟩
  have hk' : ∀ c, ∃ r : ℝ, k c = r := fun c => real_of_sq fun h => hk ⟨c, h⟩
  choose u hu using hf'
  choose v hv using hk'
  obtain ⟨s, hs⟩ := inv_real hD
  have ha : ∑ c, f c * k c = ((∑ c, u c * v c : ℝ) : EReal) := by
    rw [← sum_real]
    exact Finset.sum_congr rfl fun c _ => by rw [hu, hv, EReal.coe_mul]
  exact ⟨_, div_real hD ha hs⟩

/-- A score is a real number. -/
theorem pos_real (f k : Fin 768 → EReal) : ∃ r : ℝ, pos f k = r := by
  obtain ⟨r, hr⟩ := cos_real f k
  unfold pos
  rw [hr, ofBits_2]
  exact ⟨_, div_real (r := r + 1) (s := 2⁻¹) (by exact_mod_cast (by norm_num : (0 : ℝ) < 2)) (by push_cast; rfl) (by rw [← EReal.coe_inv])⟩

/-- What the mark is of: a real number taken off and put back. -/
theorem put_back (s b : ℝ) : (s : EReal) + ((b : EReal) - (s : EReal)) = b := by
  norm_cast
  ring

end Cert.Spec

namespace Cert.ReferenceIdeal.Val

open Cert.ReferenceIdeal Cert.ReferenceIdeal.Gen Cert.ReferenceIdeal.Read Cert.Spec
open Idealize.ShloMosaic Idealize.ShloMosaic.Tactic

/-- An index with its second coordinate changed. -/
theorem along_one (x : S4x576.Idx) (h : 1 < S4x576.rank) (k : Fin 576) : x.along ⟨1, h⟩ k = ix2 (x 0) k := by
  funext a
  match a with
  | ⟨0, _⟩ => rfl
  | ⟨1, _⟩ => rfl

/-- The order by falling score, as a bit. -/
theorem gt_word (x y : EReal) : (FloatOps.cmpfTotal (F := Ideal) (φ := .f32) .gt x y == 1#1) = decide (y < x) := by
  show (BitVec.ofBool (decide (y < x)) == 1#1) = _
  by_cases h : y < x
  · rw [decide_eq_true h]; rfl
  · rw [decide_eq_false h]; rfl

/-- The places of the falling order, read at an index. -/
theorem topK_places (P : FVec Ideal S4x576 .f32) (b : Fin 4) (r : Fin 72) (x : S4x576.Idx) (h0 : x 0 = b) (h1 : x 1 = (⟨r.val, by omega⟩ : Fin 576)) :
    P (x.along 1 (sortedFrom (fun k k' => decide (P (x.along 1 k') < P (x.along 1 k))) (x 1)))
      = P (ix2 b (sortedFrom (fun i j : Fin 576 => decide (P (ix2 b j) < P (ix2 b i))) ⟨r.val, by omega⟩))
    ∧ iotaInDim S4x576 32 1 (x.along 1 (sortedFrom (fun k k' => decide (P (x.along 1 k') < P (x.along 1 k))) (x 1)))
      = BitVec.ofNat 32 (sortedFrom (fun i j : Fin 576 => decide (P (ix2 b j) < P (ix2 b i))) ⟨r.val, by omega⟩).val := by
  have hj : ∀ k : Fin 576, x.along 1 k = ix2 b k := fun k => (along_one x (by decide) k).trans (congrArg (fun z => ix2 z k) h0)
  have hf : (sortedFrom (fun k k' : Fin 576 => decide (P (x.along 1 k') < P (x.along 1 k))) (x 1) : Fin 576)
      = sortedFrom (fun i j : Fin 576 => decide (P (ix2 b j) < P (ix2 b i))) ⟨r.val, by omega⟩ :=
    congr (congrArg sortedFrom (by funext k k'; rw [hj, hj])) h1
  refine ⟨congrArg P ((hj _).trans (congrArg (ix2 b) hf)), ?_⟩
  exact (congrArg (iotaInDim S4x576 32 1) ((hj _).trans (congrArg (ix2 b) hf))).trans rfl

/-- The places of the falling order, along the second axis. -/
theorem topK_apply (P : FVec Ideal S4x576 .f32) (b : Fin 4) (r : Fin 72) :
    (Host.topK S4x72 1 (FloatOps.cmpfTotal .gt) P sliceFits_S4x576_S4x72).1 (ix2 b r)
      = P (ix2 b (sortedFrom (fun i j : Fin 576 => decide (P (ix2 b j) < P (ix2 b i))) ⟨r.val, by omega⟩))
    ∧ (Host.topK S4x72 1 (FloatOps.cmpfTotal .gt) P sliceFits_S4x576_S4x72).2 (ix2 b r)
      = BitVec.ofNat 32 (sortedFrom (fun i j : Fin 576 => decide (P (ix2 b j) < P (ix2 b i))) ⟨r.val, by omega⟩).val := by
  unfold Host.topK Host.sort2 extractStridedSlice
  simp only [show (1 : ℕ) < S4x576.rank by decide, dif_pos]
  simp only [gt_word]
  exact topK_places P b r _ (Fin.ext (Nat.zero_add _)) (Fin.ext (Nat.zero_add _))

variable (x0 x1 : FVec Ideal S4x576x768 .f32) (x2 : IVec S4x128 32) (x9 : FVec Ideal S768x768 .f32) (x10 : FVec Ideal S1536x768 .f32)
  (x11 x13 x15 : FVec Ideal S768x768 .f32) (hR : ∀ y : S4x128.Idx, (y 1).val < 64 → (x2 y).toNat < 576)

/-- The layer's arguments as the reference holds them. -/
abbrev refArgs : Args where
  X b := img x1 b
  Y b := img x0 b
  Wq := tab x9
  Wkv := tab x10
  Wp := tab x11
  W1 := tab x13
  W2 := tab x15
  ids b m := ⟨(x2 (ix2 b ⟨m.val, by omega⟩)).toNat, hR _ m.isLt⟩

/-- The scores, before the mask. -/
theorem v266_apply (b : Fin 4) (n : Fin 576) :
    val_main_v266 (F := Ideal) x0 x1 x2 one zero one zero one zero x9 x10 x11 zero x13 zero x15 zero (ix2 b n) = (refArgs x0 x1 x2 x9 x10 x11 x13 x15 hR).score b n := by
  have h := fun c => v221_apply x0 x1 x9 x10 x11 x13 x15 b n c
  have h2 := fun c => v248_apply x0 x2 hR b c
  unfold val_main_v266 val_main_v265 val_main_v264 val_main_v263 val_main_v262 val_main_v261 val_main_v260 val_main_v259 val_main_v258 val_main_v257 val_main_v256 val_main_call8_v1 val_main_call8_v0 val_main_v255 val_main_v254 val_main_v253 val_main_call7_v1 val_main_call7_v0 val_main_v252 val_main_v251 val_main_v250 val_main_v249
  revert h h2
  generalize val_main_v221 (F := Ideal) x0 x1 one zero one zero one zero x9 x10 x11 zero x13 zero x15 zero = y
  generalize val_main_v248 (F := Ideal) x0 x2 = z
  intro h h2
  pointwise [val_main_cst_59, val_main_cst_60, val_main_cst_61, val_main_cst_62, val_main_cst_63, val_main_call7_cst, val_main_call8_cst]
  have hp : ∀ f k, f = (refArgs x0 x1 x2 x9 x10 x11 x13 x15 hR).tok b n → k = (refArgs x0 x1 x2 x9 x10 x11 x13 x15 hR).mean b → pos f k = (refArgs x0 x1 x2 x9 x10 x11 x13 x15 hR).score b n := by
    rintro _ _ rfl rfl
    rfl
  exact hp (fun c => y (ix3 b n c)) (fun c => z (ix2 b c)) (funext h) (funext h2)

include hR in
/-- The mask of the scores is one. -/
theorem v270_apply (b : Fin 4) (n : Fin 576) : val_main_v270 (F := Ideal) x2 (ix2 b n) = 1 := by
  have h := v236_apply x2 hR b
  unfold val_main_v270 val_main_v269 val_main_v268 val_main_v267 val_main_call9_v0 val_main_call9_v1
  revert h
  generalize val_main_v236 (F := Ideal) x2 = z
  intro h
  pointwise [val_main_cst_64, val_main_cst_65, id]
  rw [h]; rfl

/-- The scores. -/
theorem v271_apply (b : Fin 4) (n : Fin 576) :
    val_main_v271 (F := Ideal) x0 x1 x2 one zero one zero one zero x9 x10 x11 zero x13 zero x15 zero (ix2 b n) = (refArgs x0 x1 x2 x9 x10 x11 x13 x15 hR).score b n := by
  have h := v266_apply x0 x1 x2 x9 x10 x11 x13 x15 hR b n
  have h2 := v270_apply x2 hR b n
  unfold val_main_v271
  revert h h2
  generalize val_main_v266 (F := Ideal) x0 x1 x2 one zero one zero one zero x9 x10 x11 zero x13 zero x15 zero = y
  generalize val_main_v270 (F := Ideal) x2 = z
  intro h h2
  pointwise
  rw [h, h2, mul_one]

/-- A bit as a number. -/
theorem uitofp_word (P : Prop) [Decidable P] : (FloatOps.uitofp FTy.f32 (BitVec.ofBool (decide P)) : Ideal .f32) = if P then (1 : EReal) else 0 := by
  show (((BitVec.ofBool (decide P)).toNat : ℝ) : EReal) = _
  by_cases h : P <;> simp [h]

/-- Two places are equal when their words are. -/
theorem eq_place (i j : Fin 576) : IntOp.cmpi CmpIPredicate.eq (BitVec.ofNat 32 i.val) (BitVec.ofNat 32 j.val) = BitVec.ofBool (decide (j = i)) := by
  refine congrArg BitVec.ofBool ?_
  rw [Bool.eq_iff_iff]
  simp only [beq_iff_eq, decide_eq_true_eq]
  constructor
  · intro h
    have := congrArg BitVec.toNat h
    simp only [BitVec.toNat_ofNat] at this
    exact Fin.ext (by omega)
  · rintro rfl
    rfl

/-- The falling order of the scores is the layer's. -/
theorem best_eq (P : FVec Ideal S4x576 .f32) (A : Args) (b : Fin 4) (hP : ∀ n, P (ix2 b n) = A.score b n) (r : Fin 72) :
    sortedFrom (fun i j : Fin 576 => decide (P (ix2 b j) < P (ix2 b i))) ⟨r.val, by omega⟩ = A.best b r :=
  congrFun (congrArg sortedFrom (by funext i j; rw [hP, hP])) _

/-- The chosen scores. -/
theorem values_apply (b : Fin 4) (r : Fin 72) :
    val_main_values (F := Ideal) x0 x1 x2 one zero one zero one zero x9 x10 x11 zero x13 zero x15 zero (ix2 b r) = (refArgs x0 x1 x2 x9 x10 x11 x13 x15 hR).score b ((refArgs x0 x1 x2 x9 x10 x11 x13 x15 hR).best b r) := by
  have h := fun n => v271_apply x0 x1 x2 x9 x10 x11 x13 x15 hR b n
  unfold val_main_values
  revert h
  generalize val_main_v271 (F := Ideal) x0 x1 x2 one zero one zero one zero x9 x10 x11 zero x13 zero x15 zero = P
  intro h
  refine (topK_apply P b r).1.trans ?_
  rw [best_eq P _ b h r]
  exact h _

/-- The chosen places. -/
theorem indices_apply (b : Fin 4) (r : Fin 72) :
    val_main_indices (F := Ideal) x0 x1 x2 one zero one zero one zero x9 x10 x11 zero x13 zero x15 zero (ix2 b r) = BitVec.ofNat 32 ((refArgs x0 x1 x2 x9 x10 x11 x13 x15 hR).best b r).val := by
  have h := fun n => v271_apply x0 x1 x2 x9 x10 x11 x13 x15 hR b n
  unfold val_main_indices
  revert h
  generalize val_main_v271 (F := Ideal) x0 x1 x2 one zero one zero one zero x9 x10 x11 zero x13 zero x15 zero = P
  intro h
  refine (topK_apply P b r).2.trans ?_
  rw [best_eq P _ b h r]

/-- The one-hot rows of the chosen places. -/
theorem v272_apply (b : Fin 4) (r : Fin 72) (j : Fin 576) :
    val_main_v272 (F := Ideal) x0 x1 x2 one zero one zero one zero x9 x10 x11 zero x13 zero x15 zero (ix3 b r j) = if j = (refArgs x0 x1 x2 x9 x10 x11 x13 x15 hR).best b r then 1 else 0 := by
  have h := indices_apply x0 x1 x2 x9 x10 x11 x13 x15 hR b r
  unfold val_main_v272 val_main_call10_v4 val_main_call10_v3 val_main_call10_v2 val_main_call10_v1 val_main_call10_v0
  revert h
  generalize val_main_indices (F := Ideal) x0 x1 x2 one zero one zero one zero x9 x10 x11 zero x13 zero x15 zero = P
  intro h
  pointwise
  rw [h]
  refine Eq.trans (congrArg (FloatOps.uitofp FTy.f32) (eq_place _ j)) ?_
  exact uitofp_word (j = (refArgs x0 x1 x2 x9 x10 x11 x13 x15 hR).best b r)

/-- The chosen scores at their places. -/
theorem v275_apply (b : Fin 4) (r : Fin 72) (j : Fin 576) :
    val_main_v275 (F := Ideal) x0 x1 x2 one zero one zero one zero x9 x10 x11 zero x13 zero x15 zero (ix3 b r j) = if j = (refArgs x0 x1 x2 x9 x10 x11 x13 x15 hR).best b r then (refArgs x0 x1 x2 x9 x10 x11 x13 x15 hR).score b j else 0 := by
  have h := values_apply x0 x1 x2 x9 x10 x11 x13 x15 hR b r
  have h2 := v272_apply x0 x1 x2 x9 x10 x11 x13 x15 hR b r j
  unfold val_main_v275 val_main_v274 val_main_v273
  revert h h2
  generalize val_main_values (F := Ideal) x0 x1 x2 one zero one zero one zero x9 x10 x11 zero x13 zero x15 zero = P
  generalize val_main_v272 (F := Ideal) x0 x1 x2 one zero one zero one zero x9 x10 x11 zero x13 zero x15 zero = Q
  intro h h2
  pointwise
  rw [h, h2]
  split
  case isTrue hj => rw [mul_one, ← hj]
  case isFalse => rw [mul_zero]

/-- The marks. -/
theorem v280_apply (b : Fin 4) (r : Fin 72) (j : Fin 576) :
    val_main_v280 (F := Ideal) x0 x1 x2 one zero one zero one zero x9 x10 x11 zero x13 zero x15 zero (ix3 b r j) = (refArgs x0 x1 x2 x9 x10 x11 x13 x15 hR).mark b r j := by
  have h := v275_apply x0 x1 x2 x9 x10 x11 x13 x15 hR b r j
  unfold val_main_v280 val_main_v279 val_main_v278 val_main_v277 val_main_v276
  revert h
  generalize val_main_v275 (F := Ideal) x0 x1 x2 one zero one zero one zero x9 x10 x11 zero x13 zero x15 zero = P
  intro h
  pointwise [val_main_cst_66]
  rw [h, uitofp_word]
  unfold Args.mark
  generalize (refArgs x0 x1 x2 x9 x10 x11 x13 x15 hR).best b r = q
  obtain ⟨u, hu⟩ : ∃ u : ℝ, (refArgs x0 x1 x2 x9 x10 x11 x13 x15 hR).score b j = u := pos_real _ _
  rw [hu]
  by_cases hj : j = q
  · by_cases hu0 : (0 : EReal) < u
    · simp only [hj, hu0, if_true, and_self]
      exact put_back u 1
    · simp only [hj, hu0, if_true, if_false, and_false]
      exact put_back u 0
  · simp only [hj, if_false, false_and, lt_irrefl]
    exact put_back 0 0

/-- The means, with a unit axis after them. -/
theorem v281_apply (b : Fin 4) (c : Fin 768) :
    val_main_v281 (F := Ideal) x0 x2 (ix3 b c 0) = (refArgs x0 x1 x2 x9 x10 x11 x13 x15 hR).mean b c := by
  have h := v248_apply x0 x2 hR b c
  unfold val_main_v281
  revert h
  generalize val_main_v248 (F := Ideal) x0 x2 = P
  intro h
  pointwise
  exact h

end Cert.ReferenceIdeal.Val

end
-- ==== Proof.Agree.lean ====
/- The kernel's results are the reference's. -/
module

public import proofs.«01_k».proof.Defs
public import proofs.«01_k».proof.Proof.Ends
public import proofs.«01_k».proof.Proof.RefP
public import proofs.«01_k».proof.Proof.Pre
public import proofs.«01_k».proof.Proof.Gen.ReferenceIdeal.Run

@[expose] public section

set_option maxRecDepth 16384

noncomputable section

namespace Cert.ReferenceIdeal.Val

open Cert.ReferenceIdeal Cert.ReferenceIdeal.Gen Cert.ReferenceIdeal.Read Cert.Spec
open Idealize.ShloMosaic Idealize.ShloMosaic.Tactic

/-- The reference's five results, of parameters as they are set up. -/
theorem results (b0 b1 b2 b3 b4 b5 b6 b7 b8 b9 b10 b11 b12 b13 b14 b15 b16) (a0 a1 : FVec Ideal S4x576x768 .f32) (a2 : IVec S4x128 32) (a3 a4 a5 a6 a7 a8 : FVec Ideal S768 .f32)
    (a9 : FVec Ideal S768x768 .f32) (a10 : FVec Ideal S1536x768 .f32) (a11 : FVec Ideal S768x768 .f32) (a12 : FVec Ideal S768 .f32)
    (a13 : FVec Ideal S768x768 .f32) (a14 : FVec Ideal S768 .f32) (a15 : FVec Ideal S768x768 .f32) (a16 : FVec Ideal S768 .f32)
    (hR : ∀ y : S4x128.Idx, (y 1).val < 64 → (a2 y).toNat < 576)
    (he : b0 = a0 ∧ b1 = a1 ∧ b2 = a2 ∧ b3 = a3 ∧ b4 = a4 ∧ b5 = a5 ∧ b6 = a6 ∧ b7 = a7 ∧ b8 = a8 ∧ b9 = a9 ∧ b10 = a10 ∧ b11 = a11 ∧ b12 = a12 ∧ b13 = a13 ∧ b14 = a14 ∧ b15 = a15 ∧ b16 = a16)
    (hw : (a3 = one) ∧ (a4 = zero) ∧ (a5 = one) ∧ (a6 = zero) ∧ (a7 = one) ∧ (a8 = zero) ∧ (a12 = zero) ∧ (a14 = zero) ∧ (a16 = zero)) :
    (val_main_v280 (F := Ideal) b0 b1 b2 b3 b4 b5 b6 b7 b8 b9 b10 b11 b12 b13 b14 b15 b16 = fun y => (refArgs a0 a1 a2 a9 a10 a11 a13 a15 hR).mark (y 0) (y 1) (y 2))
    ∧ (val_main_indices (F := Ideal) b0 b1 b2 b3 b4 b5 b6 b7 b8 b9 b10 b11 b12 b13 b14 b15 b16 = fun y => BitVec.ofNat 32 ((refArgs a0 a1 a2 a9 a10 a11 a13 a15 hR).best (y 0) (y 1)).val)
    ∧ (val_main_v271 (F := Ideal) b0 b1 b2 b3 b4 b5 b6 b7 b8 b9 b10 b11 b12 b13 b14 b15 b16 = fun y => (refArgs a0 a1 a2 a9 a10 a11 a13 a15 hR).score (y 0) (y 1))
    ∧ (val_main_v221 (F := Ideal) b0 b1 b3 b4 b5 b6 b7 b8 b9 b10 b11 b12 b13 b14 b15 b16 = fun y => (refArgs a0 a1 a2 a9 a10 a11 a13 a15 hR).tok (y 0) (y 1) (y 2))
    ∧ (val_main_v281 (F := Ideal) b0 b2 = fun y => (refArgs a0 a1 a2 a9 a10 a11 a13 a15 hR).mean (y 0) (y 1)) := by
  obtain ⟨rfl, rfl, rfl, rfl, rfl, rfl, rfl, rfl, rfl, rfl, rfl, rfl, rfl, rfl, rfl, rfl, rfl⟩ := he
  obtain ⟨rfl, rfl, rfl, rfl, rfl, rfl, rfl, rfl, rfl⟩ := hw
  refine ⟨funext fun y => ?_, funext fun y => ?_, funext fun y => ?_, funext fun y => ?_, funext fun y => ?_⟩
  · obtain ⟨b, r, j, rfl⟩ : ∃ (b : Fin 4) (r : Fin 72) (j : Fin 576), y = ix3 b r j := ⟨y 0, y 1, y 2, eq_ix3 y⟩
    exact v280_apply b0 b1 b2 b9 b10 b11 b13 b15 hR b r j
  · obtain ⟨b, r, rfl⟩ : ∃ (b : Fin 4) (r : Fin 72), y = ix2 b r := ⟨y 0, y 1, eq_ix2 y⟩
    exact indices_apply b0 b1 b2 b9 b10 b11 b13 b15 hR b r
  · obtain ⟨b, n, rfl⟩ : ∃ (b : Fin 4) (n : Fin 576), y = ix2 b n := ⟨y 0, y 1, eq_ix2 y⟩
    exact v271_apply b0 b1 b2 b9 b10 b11 b13 b15 hR b n
  · obtain ⟨b, n, j, rfl⟩ : ∃ (b : Fin 4) (n : Fin 576) (j : Fin 768), y = ix3 b n j := ⟨y 0, y 1, y 2, eq_ix3 y⟩
    exact v221_apply b0 b1 b9 b10 b11 b13 b15 b n j
  · obtain ⟨b, j, rfl⟩ : ∃ (b : Fin 4) (j : Fin 768), y = ix3 b j 0 :=
      ⟨y 0, y 1, (eq_ix3 y).trans (congrArg (fun z => ix3 (y 0) (y 1) z) (Fin.eq_zero (y 2 : Fin 1)))⟩
    exact v281_apply b0 b1 b2 b9 b10 b11 b13 b15 hR b j

end Cert.ReferenceIdeal.Val

namespace Cert.Proof

open Cert.Spec
open Idealize.ShloMosaic Idealize.SL.Sem Idealize.ShloMosaic.StableHlo

/-- The value claim: from memories that agree on the arguments, set up as the layer's parameters are, both runs end with the
    same five arrays. -/
theorem values_agree : Cert.algebraic_KernelIdeal_ReferenceIdeal_pre_as_set_up (hKernelIdeal := Cert.KernelIdeal.Gen.facts)
    (hReferenceIdeal := Cert.ReferenceIdeal.Gen.facts) (hPre_as_set_up := Cert.Pre_as_set_up.Gen.facts) := by
  intro m g m' g' hpre hag
  have hR := Cert.Pre.set_up_range m hpre
  refine ⟨_, _, _, _, _, Cert.KernelIdeal.Val.run m g hR, (θ_run Cert.ReferenceIdeal.defs _ _).mono (fun r h c => ?_)
    (Cert.ReferenceIdeal.Value.run (F := Ideal) m' g')⟩
  have hw := Cert.Pre.weights_of_set_up _ _ _ _ _ _ _ _ _ _ _ _ _ _ _ _ _ (hpre c)
  have key := Cert.ReferenceIdeal.Val.results _ _ _ _ _ _ _ _ _ _ _ _ _ _ _ _ _ _ _ _ _ _ _ _ _ _ _ _ _ _ _ _ _ _ (hR c) (hag c) hw
  obtain ⟨k0, k1, k2, k3, k4⟩ := key
  have hc := h c
  exact ⟨hc.1.trans ((Cert.ReferenceIdeal.Read.val_main_v280_eq _).trans k0),
    hc.2.1.trans ((Cert.ReferenceIdeal.Read.val_main_indices_eq _).trans k1),
    hc.2.2.1.trans ((Cert.ReferenceIdeal.Read.val_main_v271_eq _).trans k2),
    hc.2.2.2.1.trans ((Cert.ReferenceIdeal.Read.val_main_v221_eq _).trans k3),
    hc.2.2.2.2.1.trans ((Cert.ReferenceIdeal.Read.val_main_v281_eq _).trans k4), hc.2.2.2.2.2⟩

end Cert.Proof

end
-- ==== Proof.lean ====
/- The claims of this certificate. The frames of the kernel, at the bits and at the extended reals, come from the run of its
   body (`Frame…`) and the range of the words (`Pre…`); the reference's from its generated run. The value claim is `Agree`'s. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ids_in_range
public import proofs.«01_k».proof.Proof.Gen.Pre_as_set_up
public import proofs.«01_k».proof.Proof.Range
public import proofs.«01_k».proof.Proof.Pre
public import proofs.«01_k».proof.Proof.Agree

@[expose] public section

noncomputable section

namespace Cert.Proof

open Idealize.ShloMosaic Idealize.SL.Sem Cert.Kernel

/-- The reference is a straight line of host operations: it runs, keeps its arguments, and names no semaphore. -/
theorem reference_frame : Cert.quiescent_ReferenceIdeal (hReferenceIdeal := Cert.ReferenceIdeal.Gen.facts) := fun m g _ =>
  (θ_run Cert.ReferenceIdeal.defs _ _).mono (fun r h => And.intro (fun c => (h c).2.2.2.2.2)
      (Idealize.ShloMosaic.sem_eq_zero_of_no_sems (by decide) r.2))
    (Cert.ReferenceIdeal.Value.run (F := Ideal) m g)

/-- All the claims. -/
theorem claim : Cert.Claim := ⟨Cert.Kernel.Gen.facts, Cert.KernelIdeal.Gen.facts, Cert.ReferenceIdeal.Gen.facts, Cert.Pre_ids_in_range.Gen.facts, Cert.Pre_as_set_up.Gen.facts,
  fun m g h => Cert.Kernel.Body.frame m g (Cert.Kernel.Body.hyps_of m (Cert.Range.kernel_range m h)),
  fun m g h => Cert.KernelIdeal.Body.frame m g (Cert.KernelIdeal.Body.hyps_of m (Cert.Range.ideal_range m h)),
  fun m g h => Cert.KernelIdeal.Body.frame m g (Cert.KernelIdeal.Body.hyps_of m (Cert.Pre.set_up_range m h)),
  reference_frame,
  fun m g _ => reference_frame m g trivial,
  trivial,
  values_agree⟩

end Cert.Proof

end
